-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S5632x1024 : Shape := ⟨2, ![5632, 1024]⟩
abbrev S5376x1024 : Shape := ⟨2, ![5376, 1024]⟩
abbrev S2x640x1024 : Shape := ⟨3, ![2, 640, 1024]⟩
abbrev S2 : Shape := ⟨1, ![2]⟩
abbrev S10 : Shape := ⟨1, ![10]⟩
abbrev S3 : Shape := ⟨1, ![3]⟩
abbrev S4 : Shape := ⟨1, ![4]⟩
abbrev S9 : Shape := ⟨1, ![9]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x640x1024 : Shape := ⟨3, ![1, 640, 1024]⟩
abbrev S640x1024 : Shape := ⟨2, ![640, 1024]⟩

abbrev nBuf : Space → Nat
  | .hbm => 2
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S5632x1024, .bf16⟩
  | .local _ .vmem, ⟨1, _⟩ => ⟨S5632x1024, .bf16⟩
  | .local _ .vmem, ⟨2, _⟩ => ⟨S5376x1024, .bf16⟩
  | .local _ .vmem, ⟨3, _⟩ => ⟨S5376x1024, .bf16⟩
  | .local _ .vmem, ⟨4, _⟩ => ⟨S2x640x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.xori v9 v10
  let c3072_i32 : BitVec 32 := 3072#32
  let v17 : BitVec 32 := Scalar.muli v11 c3072_i32
  let v31 : BitVec 32 := Scalar.addi v17 c0_i32
  let c0_i32_24 : BitVec 32 := 0#32
  ![v31.toNat, 0]
def k0_dev1 (d0 : Dev nD) : Nat :=
  let c0_i32_27 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_26 : BitVec 32 := 16#32
  let v47 : BitVec 32 := Scalar.muli v14 c16_i32_26
  let v48 : BitVec 32 := Scalar.addi c0_i32_27 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v49 : BitVec 32 := Scalar.muli v5 c4_i32_28
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v51 : BitVec 32 := Scalar.muli v8 c1_i32_29
  let v52 : BitVec 32 := Scalar.addi v50 v51
  v52.toNat
def k0_dev2 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v53 : BitVec 32 := Scalar.muli v2 c16_i32_31
  let v54 : BitVec 32 := Scalar.addi c0_i32_32 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_33 : BitVec 32 := 4#32
  let v55 : BitVec 32 := Scalar.muli v15 c4_i32_33
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v57 : BitVec 32 := Scalar.muli v8 c1_i32_34
  let v58 : BitVec 32 := Scalar.addi v56 v57
  v58.toNat
def k0_dev3 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v59 : BitVec 32 := Scalar.muli v2 c16_i32_36
  let v60 : BitVec 32 := Scalar.addi c0_i32_37 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v61 : BitVec 32 := Scalar.muli v5 c4_i32_38
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_39 : BitVec 32 := 1#32
  let v63 : BitVec 32 := Scalar.muli v16 c1_i32_39
  let v64 : BitVec 32 := Scalar.addi v62 v63
  v64.toNat
def k0_dev4 (d0 : Dev nD) : Nat :=
  let c0_i32_58 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_57 : BitVec 32 := 16#32
  let v81 : BitVec 32 := Scalar.muli v14 c16_i32_57
  let v82 : BitVec 32 := Scalar.addi c0_i32_58 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v83 : BitVec 32 := Scalar.muli v5 c4_i32_59
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v85 : BitVec 32 := Scalar.muli v8 c1_i32_60
  let v86 : BitVec 32 := Scalar.addi v84 v85
  v86.toNat
def k0_dev5 (d0 : Dev nD) : Nat :=
  let c0_i32_81 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_80 : BitVec 32 := 16#32
  let v109 : BitVec 32 := Scalar.muli v14 c16_i32_80
  let v110 : BitVec 32 := Scalar.addi c0_i32_81 v109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v111 : BitVec 32 := Scalar.muli v5 c4_i32_82
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v113 : BitVec 32 := Scalar.muli v8 c1_i32_83
  let v114 : BitVec 32 := Scalar.addi v112 v113
  v114.toNat
def k0_dev6 (d0 : Dev nD) : Nat :=
  let c0_i32_105 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_104 : BitVec 32 := 16#32
  let v137 : BitVec 32 := Scalar.muli v14 c16_i32_104
  let v138 : BitVec 32 := Scalar.addi c0_i32_105 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_106 : BitVec 32 := 4#32
  let v139 : BitVec 32 := Scalar.muli v5 c4_i32_106
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v141 : BitVec 32 := Scalar.muli v8 c1_i32_107
  let v142 : BitVec 32 := Scalar.addi v140 v141
  v142.toNat
def k0_dev7 (d0 : Dev nD) : Nat :=
  let c0_i32_129 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_128 : BitVec 32 := 16#32
  let v165 : BitVec 32 := Scalar.muli v14 c16_i32_128
  let v166 : BitVec 32 := Scalar.addi c0_i32_129 v165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v167 : BitVec 32 := Scalar.muli v5 c4_i32_130
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v169 : BitVec 32 := Scalar.muli v8 c1_i32_131
  let v170 : BitVec 32 := Scalar.addi v168 v169
  v170.toNat
def k0_dev8 (d0 : Dev nD) : Nat :=
  let c0_i32_153 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_152 : BitVec 32 := 16#32
  let v193 : BitVec 32 := Scalar.muli v14 c16_i32_152
  let v194 : BitVec 32 := Scalar.addi c0_i32_153 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v195 : BitVec 32 := Scalar.muli v5 c4_i32_154
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v197 : BitVec 32 := Scalar.muli v8 c1_i32_155
  let v198 : BitVec 32 := Scalar.addi v196 v197
  v198.toNat
def k0_off2 (d0 : Dev nD) (c0_i32_19 : BitVec 32) : Fin 2 → Nat :=
  let c6144_i32 : BitVec 32 := 6144#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v12 : BitVec 32 := Scalar.muli v9 c2_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v13 : BitVec 32 := Scalar.addi v12 v10
  let c2560_i32 : BitVec 32 := 2560#32
  let v20 : BitVec 32 := Scalar.muli v13 c2560_i32
  let v21 : BitVec 32 := Scalar.addi c6144_i32 v20
  let v37 : BitVec 32 := Scalar.addi v21 c0_i32_19
  let c0_i32_164 : BitVec 32 := 0#32
  ![v37.toNat, 0]
def k0_dev9 (d0 : Dev nD) : Nat :=
  let c0_i32_176 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_175 : BitVec 32 := 16#32
  let v221 : BitVec 32 := Scalar.muli v14 c16_i32_175
  let v222 : BitVec 32 := Scalar.addi c0_i32_176 v221
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_177 : BitVec 32 := 4#32
  let v223 : BitVec 32 := Scalar.muli v5 c4_i32_177
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v225 : BitVec 32 := Scalar.muli v8 c1_i32_178
  let v226 : BitVec 32 := Scalar.addi v224 v225
  v226.toNat
def k0_dev10 (d0 : Dev nD) : Nat :=
  let c0_i32_199 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_198 : BitVec 32 := 16#32
  let v249 : BitVec 32 := Scalar.muli v14 c16_i32_198
  let v250 : BitVec 32 := Scalar.addi c0_i32_199 v249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_200 : BitVec 32 := 4#32
  let v251 : BitVec 32 := Scalar.muli v5 c4_i32_200
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v253 : BitVec 32 := Scalar.muli v8 c1_i32_201
  let v254 : BitVec 32 := Scalar.addi v252 v253
  v254.toNat
def k0_dev11 (d0 : Dev nD) : Nat :=
  let c0_i32_222 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_221 : BitVec 32 := 16#32
  let v277 : BitVec 32 := Scalar.muli v14 c16_i32_221
  let v278 : BitVec 32 := Scalar.addi c0_i32_222 v277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_223 : BitVec 32 := 4#32
  let v279 : BitVec 32 := Scalar.muli v5 c4_i32_223
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v281 : BitVec 32 := Scalar.muli v8 c1_i32_224
  let v282 : BitVec 32 := Scalar.addi v280 v281
  v282.toNat
def k0_dev12 (d0 : Dev nD) : Nat :=
  let c0_i32_244 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_243 : BitVec 32 := 16#32
  let v305 : BitVec 32 := Scalar.muli v14 c16_i32_243
  let v306 : BitVec 32 := Scalar.addi c0_i32_244 v305
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v307 : BitVec 32 := Scalar.muli v5 c4_i32_245
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v309 : BitVec 32 := Scalar.muli v8 c1_i32_246
  let v310 : BitVec 32 := Scalar.addi v308 v309
  v310.toNat
def k0_dev13 (d0 : Dev nD) : Nat :=
  let c0_i32_261 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_5 v2
  let c16_i32_260 : BitVec 32 := 16#32
  let v328 : BitVec 32 := Scalar.muli v14 c16_i32_260
  let v329 : BitVec 32 := Scalar.addi c0_i32_261 v328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_262 : BitVec 32 := 4#32
  let v330 : BitVec 32 := Scalar.muli v5 c4_i32_262
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_263 : BitVec 32 := 1#32
  let v332 : BitVec 32 := Scalar.muli v8 c1_i32_263
  let v333 : BitVec 32 := Scalar.addi v331 v332
  v333.toNat
def k0_dev14 (d0 : Dev nD) : Nat :=
  let c0_i32_281 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_280 : BitVec 32 := 16#32
  let v350 : BitVec 32 := Scalar.muli v2 c16_i32_280
  let v351 : BitVec 32 := Scalar.addi c0_i32_281 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_282 : BitVec 32 := 4#32
  let v352 : BitVec 32 := Scalar.muli v15 c4_i32_282
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v354 : BitVec 32 := Scalar.muli v8 c1_i32_283
  let v355 : BitVec 32 := Scalar.addi v353 v354
  v355.toNat
def k0_dev15 (d0 : Dev nD) : Nat :=
  let c0_i32_306 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_305 : BitVec 32 := 16#32
  let v376 : BitVec 32 := Scalar.muli v2 c16_i32_305
  let v377 : BitVec 32 := Scalar.addi c0_i32_306 v376
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_307 : BitVec 32 := 4#32
  let v378 : BitVec 32 := Scalar.muli v15 c4_i32_307
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v380 : BitVec 32 := Scalar.muli v8 c1_i32_308
  let v381 : BitVec 32 := Scalar.addi v379 v380
  v381.toNat
def k0_dev16 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v402 : BitVec 32 := Scalar.muli v2 c16_i32_330
  let v403 : BitVec 32 := Scalar.addi c0_i32_331 v402
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_332 : BitVec 32 := 4#32
  let v404 : BitVec 32 := Scalar.muli v15 c4_i32_332
  let v405 : BitVec 32 := Scalar.addi v403 v404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v406 : BitVec 32 := Scalar.muli v8 c1_i32_333
  let v407 : BitVec 32 := Scalar.addi v405 v406
  v407.toNat
def k0_dev17 (d0 : Dev nD) : Nat :=
  let c0_i32_356 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_355 : BitVec 32 := 16#32
  let v428 : BitVec 32 := Scalar.muli v2 c16_i32_355
  let v429 : BitVec 32 := Scalar.addi c0_i32_356 v428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_357 : BitVec 32 := 4#32
  let v430 : BitVec 32 := Scalar.muli v5 c4_i32_357
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_358 : BitVec 32 := 1#32
  let v432 : BitVec 32 := Scalar.muli v16 c1_i32_358
  let v433 : BitVec 32 := Scalar.addi v431 v432
  v433.toNat
def k0_dev18 (d0 : Dev nD) : Nat :=
  let c0_i32_381 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_380 : BitVec 32 := 16#32
  let v454 : BitVec 32 := Scalar.muli v2 c16_i32_380
  let v455 : BitVec 32 := Scalar.addi c0_i32_381 v454
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_382 : BitVec 32 := 4#32
  let v456 : BitVec 32 := Scalar.muli v5 c4_i32_382
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_383 : BitVec 32 := 1#32
  let v458 : BitVec 32 := Scalar.muli v16 c1_i32_383
  let v459 : BitVec 32 := Scalar.addi v457 v458
  v459.toNat
def k0_dev19 (d0 : Dev nD) : Nat :=
  let c0_i32_406 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_405 : BitVec 32 := 16#32
  let v480 : BitVec 32 := Scalar.muli v2 c16_i32_405
  let v481 : BitVec 32 := Scalar.addi c0_i32_406 v480
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_407 : BitVec 32 := 4#32
  let v482 : BitVec 32 := Scalar.muli v5 c4_i32_407
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_408 : BitVec 32 := 1#32
  let v484 : BitVec 32 := Scalar.muli v16 c1_i32_408
  let v485 : BitVec 32 := Scalar.addi v483 v484
  v485.toNat
def k0_dev20 (d0 : Dev nD) : Nat :=
  let c0_i32_431 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_430 : BitVec 32 := 16#32
  let v506 : BitVec 32 := Scalar.muli v2 c16_i32_430
  let v507 : BitVec 32 := Scalar.addi c0_i32_431 v506
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_432 : BitVec 32 := 4#32
  let v508 : BitVec 32 := Scalar.muli v15 c4_i32_432
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v510 : BitVec 32 := Scalar.muli v8 c1_i32_433
  let v511 : BitVec 32 := Scalar.addi v509 v510
  v511.toNat
def k0_dev21 (d0 : Dev nD) : Nat :=
  let c0_i32_441 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_440 : BitVec 32 := 16#32
  let v518 : BitVec 32 := Scalar.muli v2 c16_i32_440
  let v519 : BitVec 32 := Scalar.addi c0_i32_441 v518
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_442 : BitVec 32 := 4#32
  let v520 : BitVec 32 := Scalar.muli v5 c4_i32_442
  let v521 : BitVec 32 := Scalar.addi v519 v520
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_443 : BitVec 32 := 1#32
  let v522 : BitVec 32 := Scalar.muli v16 c1_i32_443
  let v523 : BitVec 32 := Scalar.addi v521 v522
  v523.toNat
def k0_dev22 (d0 : Dev nD) : Nat :=
  let c0_i32_460 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_459 : BitVec 32 := 16#32
  let v538 : BitVec 32 := Scalar.muli v2 c16_i32_459
  let v539 : BitVec 32 := Scalar.addi c0_i32_460 v538
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_461 : BitVec 32 := 4#32
  let v540 : BitVec 32 := Scalar.muli v15 c4_i32_461
  let v541 : BitVec 32 := Scalar.addi v539 v540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v542 : BitVec 32 := Scalar.muli v8 c1_i32_462
  let v543 : BitVec 32 := Scalar.addi v541 v542
  v543.toNat
def k0_off3 (d0 : Dev nD) (c1_i32_13 : BitVec 32) (c0_i32_466 : BitVec 32) : Fin 2 → Nat :=
  let c6144_i32_15 : BitVec 32 := 6144#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v12 : BitVec 32 := Scalar.muli v9 c2_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v13 : BitVec 32 := Scalar.addi v12 v10
  let v25 : BitVec 32 := Scalar.xori v13 c1_i32_13
  let c2560_i32_14 : BitVec 32 := 2560#32
  let v26 : BitVec 32 := Scalar.muli v25 c2560_i32_14
  let v27 : BitVec 32 := Scalar.addi c6144_i32_15 v26
  let v550 : BitVec 32 := Scalar.addi v27 c0_i32_466
  let c0_i32_468 : BitVec 32 := 0#32
  ![v550.toNat, 0]
def k0_off3_at (r : Fin 10) : BitVec 32 × BitVec 32 :=
  if r.val < 5 then
    if r.val < 2 then
      if r.val < 1 then
        (1#32, 0#32)
      else
        (1#32, 640#32)
    else
      if r.val < 3 then
        (2#32, 1280#32)
      else
        if r.val < 4 then
          (2#32, 1920#32)
        else
          (1#32, 1280#32)
  else
    if r.val < 7 then
      if r.val < 6 then
        (1#32, 1920#32)
      else
        (2#32, 0#32)
    else
      if r.val < 8 then
        (2#32, 640#32)
      else
        if r.val < 9 then
          (3#32, 0#32)
        else
          (3#32, 640#32)
def k0_dev23 (d0 : Dev nD) : Nat :=
  let c0_i32_485 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_484 : BitVec 32 := 16#32
  let v565 : BitVec 32 := Scalar.muli v2 c16_i32_484
  let v566 : BitVec 32 := Scalar.addi c0_i32_485 v565
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_486 : BitVec 32 := 4#32
  let v567 : BitVec 32 := Scalar.muli v15 c4_i32_486
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_487 : BitVec 32 := 1#32
  let v569 : BitVec 32 := Scalar.muli v8 c1_i32_487
  let v570 : BitVec 32 := Scalar.addi v568 v569
  v570.toNat
def k0_dev24 (d0 : Dev nD) : Nat :=
  let c0_i32_494 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_493 : BitVec 32 := 16#32
  let v577 : BitVec 32 := Scalar.muli v2 c16_i32_493
  let v578 : BitVec 32 := Scalar.addi c0_i32_494 v577
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_495 : BitVec 32 := 4#32
  let v579 : BitVec 32 := Scalar.muli v5 c4_i32_495
  let v580 : BitVec 32 := Scalar.addi v578 v579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_496 : BitVec 32 := 1#32
  let v581 : BitVec 32 := Scalar.muli v16 c1_i32_496
  let v582 : BitVec 32 := Scalar.addi v580 v581
  v582.toNat
def k0_dev25 (d0 : Dev nD) : Nat :=
  let c0_i32_513 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_512 : BitVec 32 := 16#32
  let v597 : BitVec 32 := Scalar.muli v2 c16_i32_512
  let v598 : BitVec 32 := Scalar.addi c0_i32_513 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_514 : BitVec 32 := 4#32
  let v599 : BitVec 32 := Scalar.muli v15 c4_i32_514
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_515 : BitVec 32 := 1#32
  let v601 : BitVec 32 := Scalar.muli v8 c1_i32_515
  let v602 : BitVec 32 := Scalar.addi v600 v601
  v602.toNat
def k0_dev26 (d0 : Dev nD) : Nat :=
  let c0_i32_538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_537 : BitVec 32 := 16#32
  let v624 : BitVec 32 := Scalar.muli v2 c16_i32_537
  let v625 : BitVec 32 := Scalar.addi c0_i32_538 v624
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_539 : BitVec 32 := 4#32
  let v626 : BitVec 32 := Scalar.muli v15 c4_i32_539
  let v627 : BitVec 32 := Scalar.addi v625 v626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540 : BitVec 32 := 1#32
  let v628 : BitVec 32 := Scalar.muli v8 c1_i32_540
  let v629 : BitVec 32 := Scalar.addi v627 v628
  v629.toNat
def k0_dev27 (d0 : Dev nD) : Nat :=
  let c0_i32_547 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_546 : BitVec 32 := 16#32
  let v636 : BitVec 32 := Scalar.muli v2 c16_i32_546
  let v637 : BitVec 32 := Scalar.addi c0_i32_547 v636
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_548 : BitVec 32 := 4#32
  let v638 : BitVec 32 := Scalar.muli v5 c4_i32_548
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_549 : BitVec 32 := 1#32
  let v640 : BitVec 32 := Scalar.muli v16 c1_i32_549
  let v641 : BitVec 32 := Scalar.addi v639 v640
  v641.toNat
def k0_dev28 (d0 : Dev nD) : Nat :=
  let c0_i32_566 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_565 : BitVec 32 := 16#32
  let v656 : BitVec 32 := Scalar.muli v2 c16_i32_565
  let v657 : BitVec 32 := Scalar.addi c0_i32_566 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_567 : BitVec 32 := 4#32
  let v658 : BitVec 32 := Scalar.muli v5 c4_i32_567
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_568 : BitVec 32 := 1#32
  let v660 : BitVec 32 := Scalar.muli v16 c1_i32_568
  let v661 : BitVec 32 := Scalar.addi v659 v660
  v661.toNat
def k0_dev29 (d0 : Dev nD) : Nat :=
  let c0_i32_592 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_591 : BitVec 32 := 16#32
  let v683 : BitVec 32 := Scalar.muli v2 c16_i32_591
  let v684 : BitVec 32 := Scalar.addi c0_i32_592 v683
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.xori v5 c1_i32_6
  let c4_i32_593 : BitVec 32 := 4#32
  let v685 : BitVec 32 := Scalar.muli v15 c4_i32_593
  let v686 : BitVec 32 := Scalar.addi v684 v685
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v687 : BitVec 32 := Scalar.muli v8 c1_i32_594
  let v688 : BitVec 32 := Scalar.addi v686 v687
  v688.toNat
def k0_dev30 (d0 : Dev nD) : Nat :=
  let c0_i32_601 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_600 : BitVec 32 := 16#32
  let v695 : BitVec 32 := Scalar.muli v2 c16_i32_600
  let v696 : BitVec 32 := Scalar.addi c0_i32_601 v695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_602 : BitVec 32 := 4#32
  let v697 : BitVec 32 := Scalar.muli v5 c4_i32_602
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_603 : BitVec 32 := 1#32
  let v699 : BitVec 32 := Scalar.muli v16 c1_i32_603
  let v700 : BitVec 32 := Scalar.addi v698 v699
  v700.toNat
def k0_dev31 (d0 : Dev nD) : Nat :=
  let c0_i32_620 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_619 : BitVec 32 := 16#32
  let v715 : BitVec 32 := Scalar.muli v2 c16_i32_619
  let v716 : BitVec 32 := Scalar.addi c0_i32_620 v715
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_621 : BitVec 32 := 4#32
  let v717 : BitVec 32 := Scalar.muli v5 c4_i32_621
  let v718 : BitVec 32 := Scalar.addi v716 v717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.xori v8 c1_i32_7
  let c1_i32_622 : BitVec 32 := 1#32
  let v719 : BitVec 32 := Scalar.muli v16 c1_i32_622
  let v720 : BitVec 32 := Scalar.addi v718 v719
  v720.toNat
def k0_off4 (d0 : Dev nD) (c0_i32_677 : BitVec 32) : Fin 2 → Nat :=
  let c1_i32_8 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.xori v9 v10
  let v18 : BitVec 32 := Scalar.subi c1_i32_8 v11
  let c3072_i32_9 : BitVec 32 := 3072#32
  let v19 : BitVec 32 := Scalar.muli v18 c3072_i32_9
  let v772 : BitVec 32 := Scalar.addi v19 c0_i32_677
  let c0_i32_679 : BitVec 32 := 0#32
  ![v772.toNat, 0]
def k0_off5 (d0 : Dev nD) (c0_i32_708 : BitVec 32) : Fin 2 → Nat :=
  let c1_i32_8 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v11 : BitVec 32 := Scalar.xori v9 v10
  let v18 : BitVec 32 := Scalar.subi c1_i32_8 v11
  let c3072_i32_9 : BitVec 32 := 3072#32
  let v19 : BitVec 32 := Scalar.muli v18 c3072_i32_9
  let c1536_i32_707 : BitVec 32 := 1536#32
  let v799 : BitVec 32 := Scalar.addi v19 c1536_i32_707
  let v800 : BitVec 32 := Scalar.addi v799 c0_i32_708
  let c0_i32_710 : BitVec 32 := 0#32
  ![v800.toNat, 0]
def k0_off6 (d0 : Dev nD) (c0_i32_761 : BitVec 32) : Fin 2 → Nat :=
  let c6144_i32_17 : BitVec 32 := 6144#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let c2_i32_4 : BitVec 32 := 2#32
  let v12 : BitVec 32 := Scalar.muli v9 c2_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v13 : BitVec 32 := Scalar.addi v12 v10
  let c3_i32 : BitVec 32 := 3#32
  let v28 : BitVec 32 := Scalar.xori v13 c3_i32
  let c2560_i32_16 : BitVec 32 := 2560#32
  let v29 : BitVec 32 := Scalar.muli v28 c2560_i32_16
  let v30 : BitVec 32 := Scalar.addi c6144_i32_17 v29
  let c1280_i32_760 : BitVec 32 := 1280#32
  let v847 : BitVec 32 := Scalar.addi v30 c1280_i32_760
  let v848 : BitVec 32 := Scalar.addi v847 c0_i32_761
  let c0_i32_763 : BitVec 32 := 0#32
  ![v848.toNat, 0]
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | .hbm, ⟨4, _⟩ => ⟨S16384x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ideal.Plan.lean ====
/-
# The plan of the exchange

The kernel's 28 remote copies, listed in the order a device starts them, with the tables that describe each: the number of rows, the buffer and row it
lands at, the semaphores, the neighbour it goes to, the rows of the result it carries and the level its arrival is waited at.

* `0 … 9` (along x): the device's ten chunks of its own input rounded to bf16, to the device that differs in x;
* `10 … 15`: the first six summed chunks, three to the y neighbour and three to the z neighbour;
* then, for each of the last four summed chunks, a copy to the y neighbour, a copy to the z neighbour, and the RELAY of a chunk that has
  arrived from the one to the other.

A copy to the result array goes with each: with `t < 10` of the sum formed in chunk `t`, with any other of what arrived by it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.ValueLayout
public import Idealize.ShloMosaic.Lib.Ring
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## Neighbours -/

set_option backward.proofsInPublic true in
/-- The device that differs in the mesh's x. -/
def px (c : Dev nD) : Dev nD := ⟨(c.val + 16) % 32, Nat.mod_lt _ (by decide)⟩
set_option backward.proofsInPublic true in
/-- The y neighbour: y with its last bit flipped. -/
def py (c : Dev nD) : Dev nD := ⟨if c.val / 4 % 2 = 0 then (c.val + 4) % 32 else (c.val + 28) % 32, by split <;> exact Nat.mod_lt _ (by decide)⟩
set_option backward.proofsInPublic true in
/-- The z neighbour: z with its last bit flipped. -/
def pz (c : Dev nD) : Dev nD := ⟨if c.val % 2 = 0 then (c.val + 1) % 32 else (c.val + 31) % 32, by split <;> exact Nat.mod_lt _ (by decide)⟩

theorem px_px (c : Dev nD) : px (px c) = c := by revert c; decide
theorem py_py (c : Dev nD) : py (py c) = c := by revert c; decide
theorem pz_pz (c : Dev nD) : pz (pz c) = c := by revert c; decide

/-- The axis a remote copy runs along. -/
inductive Ax where
  | x | y | z
deriving DecidableEq

/-- The neighbour along an axis. -/
def nb : Ax → Dev nD → Dev nD
  | .x => px | .y => py | .z => pz

theorem nb_nb (a : Ax) (c : Dev nD) : nb a (nb a c) = c := by
  cases a
  · exact px_px c
  · exact py_py c
  · exact pz_pz c

/-! ## The tables -/

/-- The 28 remote copies. -/
abbrev T : Type := Fin 28

/-- The axis of each. -/
def ax (t : T) : Ax :=
  [Ax.x, .x, .x, .x, .x, .x, .x, .x, .x, .x, .y, .y, .y, .z, .z, .z,
    .y, .z, .y, .y, .z, .y, .y, .z, .z, .y, .z, .z].getD t.val .x

/-- The number of rows. -/
def rows (t : T) : ℕ :=
  [512, 512, 512, 512, 512, 512, 640, 640, 640, 640, 512, 512, 512, 512, 512, 512,
    640, 640, 640, 640, 640, 640, 640, 640, 640, 640, 640, 640].getD t.val 0

/-- The row of the landing buffer the copy lands at. -/
def dl (t : T) : ℕ :=
  [0, 512, 1024, 1536, 2048, 2560, 3072, 3712, 4352, 4992, 0, 512, 1024, 0, 512, 1024,
    1536, 1536, 4096, 2176, 2176, 4736, 2816, 2816, 4096, 3456, 3456, 4736].getD t.val 0

/-- The copy whose landing window a copy past the first ten is sent from: for the first three kinds the chunk's own sum, for a relay the
    window of the copy relayed. -/
def via (t : T) : T :=
  [0, 1, 2, 3, 4, 5, 6, 7, 8, 9, 0, 1, 2, 3, 4, 5,
    6, 6, 17, 7, 7, 20, 8, 8, 22, 9, 9, 25].getD t.val 0

/-- The send semaphore of each. -/
def sS (t : T) : DmaSem sig :=
  [2, 3, 4, 5, 6, 7, 8, 9, 10, 11, 22, 23, 24, 40, 41, 42,
    25, 43, 29, 26, 44, 30, 27, 45, 47, 28, 46, 48].getD t.val 0

/-- The receive semaphore of each. -/
def rS (t : T) : DmaSem sig :=
  [12, 13, 14, 15, 16, 17, 18, 19, 20, 21, 31, 32, 33, 49, 50, 51,
    34, 52, 38, 35, 53, 39, 36, 54, 56, 37, 55, 57].getD t.val 0

/-- The semaphore of the copy to the result array that goes with each. -/
def oS (t : T) : DmaSem sig :=
  [58, 59, 60, 61, 62, 63, 64, 65, 66, 67, 68, 69, 70, 77, 78, 79,
    71, 80, 75, 72, 81, 76, 73, 82, 84, 74, 83, 85].getD t.val 0

/-- The level an arrival is waited at. -/
def lvT (t : T) : ℕ :=
  [2, 2, 2, 2, 2, 2, 2, 2, 2, 2, 3, 3, 3, 3, 3, 3,
    3, 3, 10, 4, 4, 10, 5, 5, 10, 6, 6, 10].getD t.val 0

/-- Which of the six stretches of rows, as the device sees them, the rows belong to. -/
def stretch (t : T) : ℕ :=
  [0, 0, 0, 0, 0, 0, 1, 1, 1, 1, 2, 2, 2, 2, 2, 2,
    3, 4, 5, 3, 4, 5, 3, 4, 5, 3, 4, 5].getD t.val 0

/-- and how far into it they begin. -/
def into (t : T) : ℕ :=
  [0, 512, 1024, 1536, 2048, 2560, 0, 640, 1280, 1920, 0, 512, 1024, 1536, 2048, 2560,
    0, 0, 0, 640, 640, 640, 1280, 1280, 1280, 1920, 1920, 1920].getD t.val 0

/-- The parities of a device's y and z. -/
def yb (c : Dev nD) : ℕ := c.val / 4 % 2
def zb (c : Dev nD) : ℕ := c.val % 2

/-- The first row of a stretch on device `c`. -/
def start (s : ℕ) (c : Dev nD) : ℕ :=
  match s with
  | 0 => 3072 * ((yb c + zb c) % 2)
  | 1 => 6144 + 2560 * (2 * yb c + zb c)
  | 2 => 3072 * (1 - (yb c + zb c) % 2)
  | 3 => 6144 + 2560 * (2 * (1 - yb c) + zb c)
  | 4 => 6144 + 2560 * (2 * yb c + (1 - zb c))
  | _ => 6144 + 2560 * (2 * (1 - yb c) + (1 - zb c))

/-- The first row of the result (and of the operand) copy `t` brings device `c`; for `t < 10` those of its own chunk. -/
def og (t : T) (c : Dev nD) : ℕ := start (stretch t) c + into t

/-- The device whose sum the rows hold. -/
def org (t : T) (c : Dev nD) : Dev nD :=
  if t.val < 10 then c else if stretch t = 5 then py (pz c) else nb (ax t) c

theorem og_le (t : T) (c : Dev nD) : og t c + rows t ≤ 16384 := by revert t c; decide +kernel

/-! ## Windows -/

/-- The landing buffers and the buffer of the device's own chunks. -/
inductive B where
  | mine | rx | ry | rz
deriving DecidableEq

/-- The rows of each. -/
def bh : B → ℕ
  | .mine => 5632 | .rx => 5632 | .ry => 5376 | .rz => 5376

/-- The buffer a copy along an axis lands in. -/
def landB : Ax → B
  | .x => .rx | .y => .ry | .z => .rz

/-- Rows `l … l + n` of a two-dimensional shape of `h` rows. -/
theorem inb_rows {h l n : ℕ} (hl : l + n ≤ h) : ∀ a, (![l, 0] : Fin 2 → ℕ) a + (![n, 1024] : Fin 2 → ℕ) a ≤ (⟨2, ![h, 1024]⟩ : Shape).size a :=
  Fin.forall_fin_two.mpr ⟨hl, le_rfl⟩

/-- Rows `l … l + n` of a memref of `h` rows. -/
def win {sp : Space} {h : ℕ} {e : EltTy} (m : Memref sig .tc sp ⟨2, ![h, 1024]⟩ e) (l n : ℕ) (hl : l + n ≤ h) : Memref sig .tc sp ⟨2, ![n, 1024]⟩ e :=
  m.slice (Rect.unit (s := ⟨2, ![h, 1024]⟩) ![l, 0] ![n, 1024] (inb_rows hl)) (fun _ => rfl)

/-- The buffer's memref. -/
def bufM : (b : B) → Memref sig .tc .vmem ⟨2, ![bh b, 1024]⟩ .bf16
  | .mine => Memref.whole cc0_scratch0
  | .rx => Memref.whole cc0_scratch1
  | .ry => Memref.whole cc0_scratch2
  | .rz => Memref.whole cc0_scratch3

theorem dl_le (t : T) : dl t + rows t ≤ bh (landB (ax t)) := by revert t; decide
theorem via_rows (t : T) : rows (via t) = rows t := by revert t; decide
theorem mine_le (t : T) (h : t.val < 10) : dl t + rows t ≤ 5632 := by revert t; decide
theorem via_le (t : T) : dl (via t) + rows t ≤ bh (if t.val < 10 then .mine else landB (ax (via t))) := by revert t; decide

/-- Where copy `t` lands. -/
def dstM (t : T) : Memref sig .tc .vmem ⟨2, ![rows t, 1024]⟩ .bf16 := win (bufM (landB (ax t))) (dl t) (rows t) (dl_le t)
/-- Where copy `t` is read from. -/
def srcM (t : T) : Memref sig .tc .vmem ⟨2, ![rows t, 1024]⟩ .bf16 := win (bufM (if t.val < 10 then .mine else landB (ax (via t)))) (dl (via t)) (rows t) (via_le t)

/-- The rows of the result array that go with copy `t` on device `c`. -/
def outM (t : T) (c : Dev nD) : Memref sig .tc .hbm ⟨2, ![rows t, 1024]⟩ .bf16 := win (Memref.whole main_v1) (og t c) (rows t) (og_le t c)
/-- The rows of the operand that go with copy `t` on device `c`. -/
def inM (t : T) (c : Dev nD) : Memref sig .tc .hbm ⟨2, ![rows t, 1024]⟩ .f32 := win (Memref.whole main_arg0) (og t c) (rows t) (og_le t c)

/-! ## Values -/

/-- `n` rows of an array from row `o`. -/
def rowsOf {e : EltTy} (g : S16384x1024.Idx → Elt F e) (o n : ℕ) (ho : o + n ≤ 16384) : (⟨2, ![n, 1024]⟩ : Shape).Idx → Elt F e :=
  fun i => g (ix2 ⟨o + (i 0).val, Nat.lt_of_lt_of_le (Nat.add_lt_add_left (i 0).isLt o) ho⟩ (i 1))

variable (m : (ℓ : Loc nD τ sig) → Buf (Elt F) ℓ)

/-- Device `c`'s block of the operand, -/
def xin (c : Dev nD) : S16384x1024.Idx → Elt F .f32 := m ((c : Thread nD τ).loc main_arg0)
/-- rounded to bf16; -/
def xtr (c : Dev nD) : S16384x1024.Idx → Elt F .bf16 := truncf .bf16 (show FVec F S16384x1024 .f32 from xin m c) bitsLt_bf16_f32
/-- and the sum of it and its x neighbour's, as device `c` forms it. -/
def gsum (c : Dev nD) : S16384x1024.Idx → Elt F .bf16 := addf (show FVec F S16384x1024 .bf16 from xtr m (px c)) (show FVec F S16384x1024 .bf16 from xtr m c)

/-- What device `c` writes to the rows that go with copy `t`. -/
def oval (t : T) (c : Dev nD) : (⟨2, ![rows t, 1024]⟩ : Shape).Idx → Elt F .bf16 := rowsOf (gsum m (org t c)) (og t c) (rows t) (og_le t c)
/-- What copy `t` brings device `c`. -/
def arr (t : T) (c : Dev nD) : (⟨2, ![rows t, 1024]⟩ : Shape).Idx → Elt F .bf16 :=
  if t.val < 10 then rowsOf (xtr m (px c)) (og t c) (rows t) (og_le t c) else oval m t c

/-! ## The printed words -/

/-- The device each remote copy names, as printed. -/
def devW (t : T) : Dev nD → ℕ :=
  [k0_dev4, k0_dev5, k0_dev6, k0_dev7, k0_dev8, k0_dev9, k0_dev10, k0_dev11, k0_dev12, k0_dev13, k0_dev14, k0_dev15, k0_dev16, k0_dev17,
    k0_dev18, k0_dev19, k0_dev20, k0_dev21, k0_dev22, k0_dev23, k0_dev24, k0_dev25, k0_dev26, k0_dev27, k0_dev28, k0_dev29, k0_dev30,
    k0_dev31].getD t.val k0_dev4

/-- The offset of the rows that go with each, as printed. -/
def offW (t : T) (c : Dev nD) : Fin 2 → ℕ :=
  [k0_off1 c 0#32, k0_off1 c 512#32, k0_off1 c 1024#32, k0_off1 c 1536#32, k0_off1 c 2048#32, k0_off1 c 2560#32,
    k0_off2 c 0#32, k0_off2 c 640#32, k0_off2 c 1280#32, k0_off2 c 1920#32,
    k0_off4 c 0#32, k0_off4 c 512#32, k0_off4 c 1024#32, k0_off5 c 0#32, k0_off5 c 512#32, k0_off5 c 1024#32,
    k0_off3 c 2#32 0#32, k0_off3 c 1#32 0#32, k0_off3 c 3#32 0#32, k0_off3 c 2#32 640#32, k0_off3 c 1#32 640#32, k0_off3 c 3#32 640#32,
    k0_off3 c 2#32 1280#32, k0_off3 c 1#32 1280#32, k0_off6 c 0#32, k0_off3 c 2#32 1920#32, k0_off3 c 1#32 1920#32, k0_off6 c 640#32].getD t.val (k0_off1 c 0#32)

theorem dev1_eq (c : Dev nD) : (⟨k0_dev1 c, k0_dev1_lt c⟩ : Dev nD) = px c := by revert c; decide +kernel
theorem dev2_eq (c : Dev nD) : (⟨k0_dev2 c, k0_dev2_lt c⟩ : Dev nD) = py c := by revert c; decide +kernel
theorem dev3_eq (c : Dev nD) : (⟨k0_dev3 c, k0_dev3_lt c⟩ : Dev nD) = pz c := by revert c; decide +kernel
theorem devW_eq : ∀ (t : T) (c : Dev nD), devW t c = (nb (ax t) c).val := by decide +kernel
theorem offW_eq (t : T) (c : Dev nD) : offW t c = ![og t c, 0] := by
  have h : ∀ (t : T) (c : Dev nD), offW t c 0 = og t c ∧ offW t c 1 = 0 := by decide +kernel
  funext a; fin_cases a
  · exact (h t c).1
  · exact (h t c).2

/-- What a copy carries is what its arrival brings. -/
theorem og_nb : ∀ (t : T) (c : Dev nD), og t (nb (ax t) c) = og (via t) c := by decide +kernel
theorem org_nb : ∀ (t : T) (c : Dev nD), ¬ t.val < 10 → org t (nb (ax t) c) = org (via t) c := by decide +kernel

end Cert.KernelIdeal.Run

end
-- ==== Proof.Ideal.Sched.lean ====
/-
# The schedule

Every device has a barrier cell and, for each of the 28 remote copies, a send cell and a receive cell. A barrier cell receives one unit from each
of the three neighbours, and with it the right to write that neighbour's landing buffer. A send cell receives its copy's credit and gives the
source window back; a receive cell receives the credit and gives the landing window with what has arrived.
-/
module

public import proofs.«01_k».proof.Proof.Ideal.Plan

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

instance : Fintype Ax := ⟨{.x, .y, .z}, fun a => by cases a <;> decide⟩

/-! ## The resource algebra: the pipeline's rounds, the exchange's rounds and the counters of the local copies -/

abbrev UB : Type := URounds (GSem nD τ sig) Ax
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
instance : ((ER (F := F))).LandsIn (upEmb : UEmb _ 𝕄) := by unfold ER; infer_instance
abbrev EC : UEmb Counters (MT nD τ sig Unit (Elt F) ℕ UU ℕ) := countersEmb

abbrev 𝒱₀ : Variants := Variants.none

/-! ## The cells -/

/-- A device's cells: the barrier's, and for each copy the send cell (`false`) and the receive cell (`true`). -/
abbrev Cix : Type := Option (Bool × T)

/-- The runtime's barrier semaphore. -/
abbrev barS : Sem sig := (SemArray.scalar (sig.barrier 0 rfl) : Sems sig S_).sem

/-- The semaphore of each. -/
def csem : Cix → SemLoc sig
  | none => .reg barS
  | some (false, t) => .dma (sS t)
  | some (true, t) => .dma (rS t)

/-- Device and cell. -/
abbrev kcell (ck : Dev nD × Cix) : GSem nD τ sig := ((ck.1 : Thread nD τ), csem ck.2)
abbrev barCell (c : Dev nD) : GSem nD τ sig := kcell (c, none)
abbrev sndCell (t : T) (c : Dev nD) : GSem nD τ sig := kcell (c, some (false, t))
abbrev rcvCell (t : T) (c : Dev nD) : GSem nD τ sig := kcell (c, some (true, t))

/-- All a device's cells. -/
def allCix : List Cix := none :: ((List.finRange 28).map fun t => some (false, t)) ++ (List.finRange 28).map fun t => some (true, t)
/-- Which cell a semaphore is. -/
def kdOf (sm : SemLoc sig) : Option Cix := allCix.find? fun k => csem k = sm

theorem kdOf_csem : ∀ k : Cix, kdOf (csem k) = some k := by decide +kernel
theorem csem_injective : Function.Injective csem := fun a b h => Option.some.inj ((kdOf_csem a).symm.trans ((congrArg kdOf h).trans (kdOf_csem b)))

/-! ## Payloads -/

/-- The credit of a copy. -/
abbrev N (t : T) : ℕ := (dstM t).view.dmaCredit

theorem rows_pos : ∀ t, 0 < rows t := by decide
theorem win_numel {n : ℕ} (h : 0 < n) : 0 < (⟨2, ![n, 1024]⟩ : Shape).numel :=
  Shape.numel_pos (Fin.forall_fin_two.mpr ⟨h, (by decide : 0 < 1024)⟩)
theorem N_pos (t : T) : 0 < N t := View.dmaCredit_pos _ (win_numel (rows_pos t))

/-- The whole of one of the buffers, whatever it holds. -/
def bufAny (b : B) (c : Dev nD) : sProp 𝕄 :=
  iprop(∃ f : Buf (Elt F) ((bufM b).view.loc (c : Thread nD τ)), (bufM b).view.loc (c : Thread nD τ) ↦[(bufM b).view.set]{fullShare} f)

variable (m : (ℓ : Loc nD τ sig) → Buf (Elt F) ℓ)

/-- The share of its source window a copy is sent with: a chunk that goes to both neighbours is lent to each. -/
def qs (t : T) : PosShare TreeShare := if t = 17 ∨ t = 20 ∨ t = 23 ∨ t = 26 then fullShare.right.left else fullShare.left
/-- The share of its landing window the copy to the result array reads it with. -/
def qo (t : T) : PosShare TreeShare :=
  if t.val < 6 then fullShare.right else if t.val < 10 then fullShare.right.right else if t = 17 ∨ t = 20 ∨ t = 22 ∨ t = 25 then fullShare.right else fullShare

/-- What copy `t` takes with it on device `c`: its source window at what its arrival brings. -/
def srcO (t : T) (c : Dev nD) : sProp 𝕄 := owns (c : Thread nD τ) (srcM t) (qs t) (arr m t (nb (ax t) c))
/-- What it brings device `c`. -/
def dstO (t : T) (c : Dev nD) : sProp 𝕄 := owns (c : Thread nD τ) (dstM t) fullShare (arr m t c)

instance bufAny_storable (b : B) (c : Dev nD) : BI.Storable (upEmb : UEmb _ 𝕄) (bufAny (F := F) b c) := by unfold bufAny; infer_instance
instance srcO_storable (t : T) (c : Dev nD) : BI.Storable (upEmb : UEmb _ 𝕄) (srcO (F := F) m t c) := by unfold srcO; infer_instance
instance dstO_storable (t : T) (c : Dev nD) : BI.Storable (upEmb : UEmb _ 𝕄) (dstO (F := F) m t c) := by unfold dstO; infer_instance

/-- What the units of a device's cell hand it. -/
def pay (c : Dev nD) (d : Ax) : Cix → sProp 𝕄
  | none => bufAny (landB d) (nb d c)
  | some (false, t) => srcO m t c
  | some (true, t) => dstO m t c

/-- One round: three duties of a unit for a barrier cell, one of its copy's credit for any other. -/
def Rd : Rounds.Schedule (GSem nD τ sig) Ax 𝕄 where
  duties g r := if r = 0 ∧ g.1.2 = .tc then (match kdOf g.2 with | some none => Finset.univ | some (some _) => {.x} | none => ∅) else ∅
  unitless _ := False
  amount g _ _ := match kdOf g.2 with | some (some (_, t)) => N t | _ => 1
  payload g _ d := match kdOf g.2 with | some k => pay m g.1.1 d k | none => iprop(emp)
  amount_pos g _ _ _ := by
    split
    · exact N_pos _
    · exact Nat.one_pos

instance Rd_storable (g : GSem nD τ sig) (r : ℕ) (d : Ax) : BI.Storable (upEmb : UEmb _ 𝕄) ((Rd (F := F) m).payload g r d) := by
  show BI.Storable upEmb (match kdOf g.2 with | some k => pay m g.1.1 d k | none => iprop(emp))
  unfold pay
  (repeat' split) <;> infer_instance

section Sched
variable (c : Dev nD) (t : T)

theorem duties_at (k : Cix) : (Rd (F := F) m).duties (kcell (c, k)) 0 = if k = none then Finset.univ else {.x} := by
  dsimp only [Rd]; rw [if_pos ⟨rfl, rfl⟩, kdOf_csem]; cases k <;> rfl
theorem duties_bar : (Rd (F := F) m).duties (barCell c) 0 = Finset.univ := by rw [duties_at]; rfl
theorem duties_snd : (Rd (F := F) m).duties (sndCell t c) 0 = {.x} := by rw [duties_at]; rfl
theorem duties_rcv : (Rd (F := F) m).duties (rcvCell t c) 0 = {.x} := by rw [duties_at]; rfl
theorem duties_later (g : GSem nD τ sig) : ∀ r, 1 ≤ r → (Rd (F := F) m).duties g r = ∅ :=
  fun r hr => by dsimp only [Rd]; rw [if_neg fun h => by omega]

theorem amount_bar (d : Ax) : (Rd (F := F) m).amount (barCell c) 0 d = 1 := by dsimp only [Rd]; rw [kdOf_csem]
theorem amount_snd (d : Ax) : (Rd (F := F) m).amount (sndCell t c) 0 d = N t := by dsimp only [Rd]; rw [kdOf_csem]
theorem amount_rcv (d : Ax) : (Rd (F := F) m).amount (rcvCell t c) 0 d = N t := by dsimp only [Rd]; rw [kdOf_csem]

theorem expect_bar : (Rd (F := F) m).expect (barCell c) 0 = 3 := by
  unfold Schedule.expect Schedule.amountOf
  rw [duties_bar, Finset.sum_congr rfl fun d _ => amount_bar m c d]; rfl
theorem expect_snd : (Rd (F := F) m).expect (sndCell t c) 0 = N t := by
  unfold Schedule.expect Schedule.amountOf; rw [duties_snd, Finset.sum_singleton, amount_snd]
theorem expect_rcv : (Rd (F := F) m).expect (rcvCell t c) 0 = N t := by
  unfold Schedule.expect Schedule.amountOf; rw [duties_rcv, Finset.sum_singleton, amount_rcv]

theorem payload_at (k : Cix) (d : Ax) : (Rd (F := F) m).payload (kcell (c, k)) 0 d = pay m c d k := by dsimp only [Rd]; rw [kdOf_csem]

/-- What the barrier's three units bring: each neighbour's landing buffer. -/
theorem rest_bar : bigSep ((Rd (F := F) m).duties (barCell c) 0 \ ∅) (fun d => (Rd (F := F) m).payload (barCell c) 0 d)
    = iprop(bufAny .rx (px c) ∗ bufAny .ry (py c) ∗ bufAny .rz (pz c)) := by
  rw [Finset.sdiff_empty, duties_bar, bigSep_univ_eq_bigSepL [Ax.x, .y, .z] (by decide) (by decide), bigSepL_cons_cons, bigSepL_cons_cons, bigSepL_singleton,
    payload_at, payload_at, payload_at]
  rfl
theorem rest_snd : bigSep ((Rd (F := F) m).duties (sndCell t c) 0 \ ∅) (fun d => (Rd (F := F) m).payload (sndCell t c) 0 d) = srcO m t c := by
  rw [Finset.sdiff_empty, duties_snd, bigSep_singleton, payload_at]; rfl
theorem rest_rcv : bigSep ((Rd (F := F) m).duties (rcvCell t c) 0 \ ∅) (fun d => (Rd (F := F) m).payload (rcvCell t c) 0 d) = dstO m t c := by
  rw [Finset.sdiff_empty, duties_rcv, bigSep_singleton, payload_at]; rfl

end Sched

/-! ## What a device owes, and the levels -/

/-- The credit of the copies of a list, owed to the neighbours' receive cells; the first of the list is the last summand. -/
def Ol (c : Dev nD) (l : List T) : CellTallies nD τ sig Unit := l.foldr (fun t O => O + tallyAt (rcvCell t (nb (ax t) c)) () (N t)) 0
/-- At launch: all of them, and a unit to each neighbour's barrier cell. -/
def O₀ (c : Dev nD) : CellTallies nD τ sig Unit :=
  Ol c (List.finRange 28) + tallyAt (barCell (pz c)) () 1 + tallyAt (barCell (py c)) () 1 + tallyAt (barCell (px c)) () 1

def L (g : GSem nD τ sig) : Finset Unit := if g.1.2 = .tc then {()} else ∅
/-- The level of a semaphore: 1 for the barrier, a receive's own, 0 for any other. -/
def lvS (sm : SemLoc sig) : ℕ := match kdOf sm with | some none => 1 | some (some (true, t)) => lvT t | _ => 0
def lv (g : GSem nD τ sig) (_ : Unit) : ℕ := lvS g.2

theorem lvT_pos : ∀ t, 0 < lvT t := by decide
theorem L_of_ne (g : GSem nD τ sig) (h : g.1.2 ≠ .tc) : L g = ∅ := if_neg h
theorem L_tc (c : Dev nD) (sm : SemLoc sig) : L ((c : Thread nD τ), sm) = {()} := if_pos rfl
theorem lvS_rcv (t : T) : lvS (csem (some (true, t))) = lvT t := by unfold lvS; rw [kdOf_csem]
theorem lvS_bar : lvS (csem none) = 1 := by unfold lvS; rw [kdOf_csem]
theorem lvS_snd (t : T) : lvS (csem (some (false, t))) = 0 := by unfold lvS; rw [kdOf_csem]

/-- What the credit of a list is owed to. -/
theorem Ol_pos {c : Dev nD} {l : List T} {g : GSem nD τ sig} {u : Unit} (h : 0 < Ol c l g u) : ∃ t ∈ l, g = rcvCell t (nb (ax t) c) := by
  induction l with
  | nil => exact absurd h (Nat.lt_irrefl 0)
  | cons t l ih =>
    unfold Ol at h ih
    rw [List.foldr_cons, Pi.add_apply, Finsupp.add_apply, tallyAt_apply] at h
    by_cases hg : g = rcvCell t (nb (ax t) c)
    · exact ⟨t, List.mem_cons_self, hg⟩
    · rw [if_neg (fun h' => hg h'.1), Nat.add_zero] at h
      obtain ⟨s, hs, he⟩ := ih h
      exact ⟨s, List.mem_cons_of_mem _ hs, he⟩

theorem O₀_pos {c : Dev nD} {g : GSem nD τ sig} {u : Unit} (h : 0 < O₀ c g u) : (∃ t, g = rcvCell t (nb (ax t) c)) ∨ ∃ d, g = barCell (nb d c) := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨.z, h'.1⟩), if_neg (fun h' => hn.2 ⟨.y, h'.1⟩), if_neg (fun h' => hn.2 ⟨.x, h'.1⟩)] at h
  obtain ⟨t, -, ht⟩ := Ol_pos (show 0 < Ol c (List.finRange 28) g u from h)
  exact hn.1 ⟨t, ht⟩

/-- A device may wait at a semaphore below the level of every receive it still owes. -/
theorem mayWait_of (c : Dev nD) (sm : SemLoc sig) (l : List T) (h : ∀ t ∈ l, lvS sm < lvT t) :
    (levAts L lv : sProp 𝕄) ⊢ MayWait (c : Thread nD τ) sm () (Ol c l) :=
  MayOwe.of_cut (L := L) (lev := lv) (lvS sm) (fun p hp => by rw [Finset.mem_singleton.mp hp, L_tc]; exact Finset.mem_singleton_self _)
    (fun g u hg => by obtain ⟨t, -, rfl⟩ := Ol_pos hg; exact Finset.mem_singleton_self _)
    (fun p hp => by rw [Finset.mem_singleton.mp hp]; exact le_rfl)
    (fun g u hg => by obtain ⟨t, ht, rfl⟩ := Ol_pos hg; show lvS sm < lvS _; rw [lvS_rcv]; exact h t ht)

/-- A device may wait at a semaphore of level 0 with all it owes at launch. -/
theorem mayWait_start (c : Dev nD) (sm : SemLoc sig) (h : lvS sm = 0) : (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨t, rfl⟩ | ⟨d, rfl⟩ <;> exact Finset.mem_singleton_self _)
    (fun p hp => by rw [Finset.mem_singleton.mp hp]; exact le_of_eq h)
    (fun g u hg => by
      rcases O₀_pos hg with ⟨t, rfl⟩ | ⟨d, rfl⟩
      · show 0 < lvS _; rw [lvS_rcv]; exact lvT_pos t
      · show 0 < lvS _; rw [lvS_bar]; exact Nat.one_pos)

end Cert.KernelIdeal.Run

end
-- ==== Proof.Ideal.Steps.lean ====
/-
# One effect at a time

What a device holds between two effects of the body, as lists of the copies that have reached each stage (`St`), and for every kind of effect
the step from what is held before it to what is held after.
-/
module

public import proofs.«01_k».proof.Proof.Ideal.Sched
public import Idealize.ShloMosaic.Lib.SparseCore.ProtocolKit

@[expose] public section

set_option maxRecDepth 100000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Windows with equal tables -/

variable (m : (ℓ : Loc nD τ sig) → Buf (Elt F) ℓ)

/-- A share of rows `l … l + n` of a buffer holding rows `o … o + n` of an array. -/
def wown (c : Dev nD) (b : B) (l n : ℕ) (hl : l + n ≤ bh b) (q : PosShare TreeShare) (g : S16384x1024.Idx → Elt F .bf16) (o : ℕ) (ho : o + n ≤ 16384) : sProp 𝕄 :=
  owns (c : Thread nD τ) (win (bufM b) l n hl) q (rowsOf g o n ho)

theorem wown_congr {c : Dev nD} {b b' : B} {l l' n n' o o' : ℕ} {hl : l + n ≤ bh b} {hl' : l' + n' ≤ bh b'} {q q' : PosShare TreeShare}
    {g g' : S16384x1024.Idx → Elt F .bf16} {ho : o + n ≤ 16384} {ho' : o' + n' ≤ 16384}
    (hb : b = b') (hll : l = l') (hn : n = n') (hq : q = q') (hg : g = g') (hoo : o = o') : (wown c b l n hl q g o ho : sProp 𝕄) = wown c b' l' n' hl' q' g' o' ho' := by
  subst hb hll hn hq hg hoo; rfl

theorem owns_of {c : Thread nD τ} {sp : Space} {sh : Shape} {e : EltTy} {mm : Memref sig c.2.kind sp sh e} {q : PosShare TreeShare} {f : mm.view.ty.Contents (Elt F)}
    {X : sh.Idx → Elt F e} (h : mm.view.read (Elt F) f = X) : (mm.view.loc c ↦[mm.view.set]{q} f : sProp 𝕄) ⊢ owns c mm q X := h ▸ owns_intro c mm q f

/-- A share of the window copy `t` landed in, holding what the result array gets. -/
def sumO (t : T) (c : Dev nD) (q : PosShare TreeShare) : sProp 𝕄 := owns (c : Thread nD τ) (dstM t) q (oval m t c)

theorem arr_ge (t : T) (c : Dev nD) (h : ¬ t.val < 10) : arr m t c = oval m t c := if_neg h

/-- A copy past the first ten is sent from the window it is `via`. -/
theorem sumO_via (t : T) (c : Dev nD) (h : ¬ t.val < 10) : sumO m (via t) c (qs t) = srcO m t c := by
  unfold srcO; rw [arr_ge m t _ h]
  exact wown_congr (b := landB (ax (via t))) (b' := if t.val < 10 then .mine else landB (ax (via t)))
    (by rw [if_neg h]) rfl (via_rows t) rfl (by rw [org_nb t c h]) (og_nb t c).symm

/-! ## The resources of a copy at each stage -/

/-- The persistent records: every cell's invariant, that its round is open, and the levels. -/
def recs (K : Dev nD × Cix → ℕ) : sProp 𝕄 :=
  iprop((bigSep Finset.univ fun ck : Dev nD × Cix => cellInv ER (Rd m) (K ck) (kcell ck)) ∗ (bigSep Finset.univ fun ck : Dev nD × Cix => reached ER (kcell ck) 0) ∗ levAts L lv)

instance recs_persistent (K : Dev nD × Cix → ℕ) : BI.Persistent (recs m K) := by unfold recs; infer_instance

theorem inv_at (K : Dev nD × Cix → ℕ) (ck : Dev nD × Cix) :
    (bigSep Finset.univ fun ck : Dev nD × Cix => (cellInv ER (Rd m) (K ck) (kcell ck) : sProp 𝕄)) ⊢ cellInv ER (Rd m) (K ck) (kcell ck) :=
  bigSep_elim (Finset.mem_univ ck)
theorem reached_at (ck : Dev nD × Cix) : (bigSep Finset.univ fun ck : Dev nD × Cix => (reached ER (kcell ck) 0 : sProp 𝕄)) ⊢ reached ER (kcell ck) 0 :=
  bigSep_elim (Finset.mem_univ ck)
theorem recs_inv (K : Dev nD × Cix → ℕ) (ck : Dev nD × Cix) : recs m K ⊢ cellInv ER (Rd m) (K ck) (kcell ck) := by
  unfold recs
  iintro ⟨H, -, -⟩
  iapply (inv_at m K ck); iexact H
theorem recs_reached (K : Dev nD × Cix → ℕ) (ck : Dev nD × Cix) : recs m K ⊢ reached ER (kcell ck) 0 := by
  unfold recs
  iintro ⟨-, H, -⟩
  iapply (reached_at ck); iexact H
theorem recs_lev (K : Dev nD × Cix → ℕ) : recs m K ⊢ (levAts L lv : sProp 𝕄) := by
  unfold recs
  iintro ⟨-, -, H⟩
  iexact H

/-- Before it is sent: the duties of its two cells and the position at its send cell; -/
def pend0 (c : Dev nD) (t : T) : sProp 𝕄 :=
  iprop(dutyTok ER (sndCell t c) 0 .x ∗ dutyTok ER (rcvCell t (nb (ax t) c)) 0 .x ∗ atPos ER (sndCell t c) 0 ∅ 0)
/-- the window it lands in; -/
def land (c : Dev nD) (t : T) : sProp 𝕄 :=
  iprop(∃ f : Buf (Elt F) ((dstM t).view.loc (c : Thread nD τ)), (dstM t).view.loc (c : Thread nD τ) ↦[(dstM t).view.set]{fullShare} f)
/-- both, the window the neighbour's. -/
def pend (c : Dev nD) (t : T) : sProp 𝕄 := iprop(pend0 c t ∗ land (nb (ax t) c) t)
/-- Sent: the credit of its send cell. -/
def sentI (c : Dev nD) (t : T) : sProp 𝕄 := iprop(cred (tallyAt (sndCell t c) () (N t)) ∗ atPos ER (sndCell t c) 0 ∅ 0)
/-- The source window back. -/
def sdone (c : Dev nD) (t : T) : sProp 𝕄 := iprop(semVal (sndCell t c) 0 ∗ srcO m t c)
/-- An arrival to come; -/
def due (c : Dev nD) (t : T) : sProp 𝕄 := iprop(cred (tallyAt (rcvCell t c) () (N t)) ∗ atPos ER (rcvCell t c) 0 ∅ 0)
/-- come. -/
def rdone (c : Dev nD) (t : T) : sProp 𝕄 := semVal (rcvCell t c) 0
/-- A copy to the result array to come: its semaphore at zero and the rows; -/
def ofree (c : Dev nD) (t : T) : sProp 𝕄 :=
  iprop(semVal ((c : Thread nD τ), .dma (oS t)) 0 ∗ ∃ f : Buf (Elt F) ((outM t c).view.loc (c : Thread nD τ)), (outM t c).view.loc (c : Thread nD τ) ↦[(outM t c).view.set]{fullShare} f)
/-- under way; -/
def ofly (c : Dev nD) (t : T) : sProp 𝕄 :=
  Transfers.Flight EC (c : Thread nD τ) (.dma (oS t)) () (N t) iprop(owns (c : Thread nD τ) (outM t c) fullShare (oval m t c) ∗ sumO m t c (qo t))
/-- done. -/
def odone (c : Dev nD) (t : T) : sProp 𝕄 :=
  iprop(semVal ((c : Thread nD τ), .dma (oS t)) 0 ∗ owns (c : Thread nD τ) (outM t c) fullShare (oval m t c) ∗ sumO m t c (qo t))

/-! The device's own chunks, `t < 10`. -/

/-- The place in the staging buffer chunk `t` is loaded to. -/
def par (t : T) : Fin 2 := ⟨t.val % 2, Nat.mod_lt _ (by decide)⟩
/-- Its semaphore. -/
def lS (s : Fin 2) : DmaSem sig := ⟨s.val, by have := s.isLt; exact lt_of_lt_of_le this (by decide)⟩

theorem rows_le (t : T) : rows t ≤ 640 := by revert t; decide
theorem inb_stg {s n : ℕ} (hs : s < 2) (hn : n ≤ 640) : ∀ a, (![s, 0, 0] : Fin 3 → ℕ) a + (![1, n, 1024] : Fin 3 → ℕ) a ≤ S2x640x1024.size a :=
  Fin.forall_fin_succ.mpr ⟨Nat.succ_le_of_lt hs, Fin.forall_fin_two.mpr ⟨by show 0 + n ≤ 640; omega, le_rfl⟩⟩
/-- The first `n` rows of place `s` of the staging buffer. -/
def stgR (s n : ℕ) (hs : s < 2) (hn : n ≤ 640) : Rect S2x640x1024 := Rect.unit (s := S2x640x1024) ![s, 0, 0] ![1, n, 1024] (inb_stg hs hn)
theorem sq_stg (t : T) : (⟨3, ![1, rows t, 1024]⟩ : Shape).Squeezes ⟨2, ![rows t, 1024]⟩ := by revert t; decide
/-- Where chunk `t` is loaded to. -/
def stgM (t : T) : Memref sig .tc .vmem ⟨2, ![rows t, 1024]⟩ .f32 :=
  ((Memref.whole cc0_scratch4).slice (stgR (par t).val (rows t) (par t).isLt (rows_le t)) (fun _ => rfl)).squeeze ⟨2, ![rows t, 1024]⟩ (sq_stg t)
/-- The elements of a place. -/
def stgSet (s : Fin 2) : Finset S2x640x1024.Idx := (stgR s.val 640 s.isLt le_rfl).set

/-- A place of the staging buffer, free; -/
def slot (c : Dev nD) (s : Fin 2) : sProp 𝕄 :=
  iprop(semVal ((c : Thread nD τ), .dma (lS s)) 0 ∗ ∃ f : Buf (Elt F) ((c : Thread nD τ).loc cc0_scratch4), (c : Thread nD τ).loc cc0_scratch4 ↦[stgSet s]{fullShare} f)
/-- a chunk to load: a share of its rows of the operand, and the window it goes to; -/
def lfree (c : Dev nD) (t : T) : sProp 𝕄 :=
  iprop((∃ q, (inM t c).view.loc (c : Thread nD τ) ↦[(inM t c).view.set]{q} (m ((c : Thread nD τ).loc main_arg0)))
    ∗ ∃ f : Buf (Elt F) ((srcM t).view.loc (c : Thread nD τ)), (srcM t).view.loc (c : Thread nD τ) ↦[(srcM t).view.set]{fullShare} f)
/-- under way: -/
def lfly0 (c : Dev nD) (t : T) : sProp 𝕄 :=
  Transfers.Flight EC (c : Thread nD τ) (.dma (lS (par t))) () ((stgM t).view.dmaCredit)
      iprop(∃ f : Buf (Elt F) ((c : Thread nD τ).loc cc0_scratch4), ⌜(stgM t).view.read (Elt F) f = rowsOf (xin m c) (og t c) (rows t) (og_le t c)⌝
        ∗ ((c : Thread nD τ).loc cc0_scratch4 ↦[stgSet (par t)]{fullShare} f))
/-- with the window it goes to. -/
def lfly (c : Dev nD) (t : T) : sProp 𝕄 :=
  iprop(lfly0 m c t ∗ ∃ f : Buf (Elt F) ((srcM t).view.loc (c : Thread nD τ)), (srcM t).view.loc (c : Thread nD τ) ↦[(srcM t).view.set]{fullShare} f)
/-- The half of a chunk that stays while it is sent. -/
def mineR (c : Dev nD) (t : T) : sProp 𝕄 := owns (c : Thread nD τ) (srcM t) fullShare.right (arr m t (nb (ax t) c))

/-! ## The state between two effects -/

/-- A family over a list. -/
def bs {I : Type} (l : List I) (Φ : I → sProp 𝕄) : sProp 𝕄 := bigSepL l Φ
theorem bs_cons {I : Type} (i : I) (l : List I) (Φ : I → sProp 𝕄) : bs (i :: l) Φ = iprop(Φ i ∗ bs l Φ) := bigSepL_cons i l Φ
theorem bs_snoc {I : Type} (l : List I) (i : I) (Φ : I → sProp 𝕄) : bs (l ++ [i]) Φ ⊣⊢ iprop(Φ i ∗ bs l Φ) := by
  induction l with
  | nil => rw [List.nil_append, bs_cons]
  | cons a l ih =>
    rw [List.cons_append, bs_cons, bs_cons]
    refine ⟨?_, ?_⟩
    · iintro ⟨Ha, Hl⟩
      ihave ⟨Hi, Hl⟩ := ih.1 $$ Hl
      iclose
    · iintro ⟨Hi, Ha, Hl⟩
      isplitl [Ha]; · iexact Ha
      iapply ih.2
      iclose
theorem bs_mem {I : Type} [DecidableEq I] {l : List I} {i : I} (h : i ∈ l) (Φ : I → sProp 𝕄) : bs l Φ ⊢ iprop(Φ i ∗ (Φ i -∗ bs l Φ)) := by
  induction l with
  | nil => cases h
  | cons a l ih =>
    rw [bs_cons]
    by_cases e : i = a
    · subst e
      iintro ⟨Ha, Hl⟩
      isplitl [Ha]; · iexact Ha
      iintro Ha; iclose
    · iintro ⟨Ha, Hl⟩
      ihave ⟨Hi, Hw⟩ := (ih ((List.mem_cons.mp h).resolve_left e)) $$ Hl
      isplitl [Hi]; · iexact Hi
      iintro Hi
      isplitl [Ha]; · iexact Ha
      iapply Hw; iexact Hi
theorem bs_perm {I : Type} [DecidableEq I] {l l' : List I} (h : l.Perm l') (hn : l.Nodup) (Φ : I → sProp 𝕄) : bs l Φ = bs l' Φ :=
  (bigSep_eq_bigSepL_of_eq l rfl hn Φ).symm.trans (bigSep_eq_bigSepL_of_eq l' (List.toFinset_eq_of_perm _ _ h) (h.nodup_iff.mp hn) Φ)

/-- The state: the credit of the copies not yet sent owed, what is in hand, and the copies (chunks) at each stage: to load, the free places of the
    staging buffer, being loaded, loaded, to send, sent, to arrive, arrived, to copy out, being copied out, copied out, sent and back. -/
def St (c : Dev nD) (H : sProp 𝕄) (fr : List T) (sl : List (Fin 2)) (fl mr pe sd du rd of oy od sn : List T) : sProp 𝕄 :=
  iprop(∃ K W, recs m K ∗ owes (c : Thread nD τ) (Ol c pe) W ∗ H ∗ bs fr (lfree m c) ∗ bs sl (slot c) ∗ bs fl (lfly m c) ∗ bs mr (mineR m c)
    ∗ bs pe (pend c) ∗ bs sd (sentI c) ∗ bs du (due c) ∗ bs rd (rdone c) ∗ bs of (ofree c) ∗ bs oy (ofly m c) ∗ bs od (odone m c) ∗ bs sn (sdone m c))

variable {m} {c : Dev nD} {α : Type}
variable  {fr fl mr pe sd du rd of oy od sn : List T} {sl : List (Fin 2)}

/-- The body's weakest precondition. -/
abbrev WP (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What is owed with one more copy to send. -/
theorem Ol_cons (c : Dev nD) (t : T) (l : List T) : Ol c (t :: l) = Ol c l + tallyAt (rcvCell t (nb (ax t) c)) () (N t) := rfl

/-- **A remote copy.** -/
theorem step_fire {Q : α → sProp 𝕄} {H : sProp 𝕄} (t : T) {n : Dev nD} (hn : n = nb (ax t) c)
    {hsc : (dstM t : Memref sig (Dev.tc n : Thread nD τ).2.kind .vmem _ .bf16).view.ref.isScScratch = false}
    {hsrc : (srcM t).view.WordExact} {hdst : (dstM t).view.WordExact}
    {hsem : DmaTarget.Typed .vmem (.dma (rS t)) (.remote (Dev.tc n : Thread nD τ) (dstM t) (.dma (sS t)) hsc)}
    {k : PUnit → Prog (TpuEff nD τ sig (Elt F) Λ₀ .tc) α}
    (h : St m c H fr sl fl mr pe (t :: sd) du rd of oy od sn ⊢ WP c (k ⟨⟩) Q) :
    St m c iprop(srcO m t c ∗ H) fr sl fl mr (t :: pe) sd du rd of oy od sn
      ⊢ WP c (.op (.enqueueDma (srcM t) (.remote (Dev.tc n : Thread nD τ) (dstM t) (.dma (sS t)) hsc) (.dma (rS t)) hsrc hdst hsem) k) Q := by
  subst hn
  unfold St at h ⊢
  rw [bs_cons, sentI] at h
  rw [bs_cons, pend, pend0, land, srcO, owns]
  iintro ⟨%K, %W, #HR, HO, ⟨⟨%f, %hf, Hs⟩, HH⟩, Hfr, Hsl, Hfl, Hmr, ⟨⟨⟨Ht1, Ht2, Hat⟩, %fd, Hd⟩, Hpe⟩, Hsd, Hrest⟩
  iapply (Rounds.wp_send_pointsTo 𝒱₀ ER (Rd m) (c : Thread nD τ) none (c' := ((nb (ax t) c : Dev nD) : Thread nD τ)) (κ₁ := K (c, some (false, t))) (κ₂ := K (nb (ax t) c, some (true, t)))
    (r₁ := 0) (r₂ := 0) (d₁ := Ax.x) (d₂ := Ax.x) (fs := f) (fd := fd)
    (by rw [duties_snd]; exact Finset.mem_singleton_self _) (by rw [duties_rcv]; exact Finset.mem_singleton_self _)
    () () (N t) rfl (amount_snd m c t .x) (amount_rcv m (nb (ax t) c) t .x) (Ol c pe) (Ol_cons c t pe) (W := W)
    (by rw [payload_at]; exact owns_of hf)
    (by rw [payload_at]; exact owns_of ((View.read_write_univ _ _).trans hf))) $$ [HO Hs Ht1 Ht2 Hd]
  · isplitr; · iapply (recs_inv m K (c, some (false, t))); iexact HR
    isplitr; · iapply (recs_inv m K (nb (ax t) c, some (true, t))); iexact HR
    isplitl [Hs]; · iexact Hs
    isplitl [Hd]; · iexact Hd
    isplitl [HO]; · iexact HO
    isplitl [Ht1]; · iexact Ht1
    isplitr; · iapply (recs_reached m K (c, some (false, t))); iexact HR
    isplitl [Ht2]; · iexact Ht2
    iapply (recs_reached m K (nb (ax t) c, some (true, t))); iexact HR
  iintro ⟨Hc, HO⟩
  iapply h
  iexists K
  iexists W
  iclose

/-! ### Credits of the windows -/

theorem credit_dst (t : T) : (dstM t).view.dmaCredit = N t := by unfold N; rfl
theorem credit_src (t : T) : (srcM t).view.dmaCredit = N t := by revert t; decide +kernel
theorem credit_out (t : T) (c : Dev nD) : (outM t c).view.dmaCredit = N t := by revert t c; decide +kernel

/-- The semaphores of the local copies are below every arrival. -/
theorem lvS_out : ∀ t s : T, lvS (.dma (oS t)) < lvT s := by decide +kernel
theorem lvS_load : ∀ (p : Fin 2) (s : T), lvS (.dma (lS p)) < lvT s := by decide +kernel

theorem mayWait_out (t : T) (c : Dev nD) (l : List T) : (levAts L lv : sProp 𝕄) ⊢ MayWait (c : Thread nD τ) (.dma (oS t)) () (Ol c l) := by
  refine mayWait_of c _ l ?_
  intro s _
  exact lvS_out t s
theorem mayWait_load (p : Fin 2) (c : Dev nD) (l : List T) : (levAts L lv : sProp 𝕄) ⊢ MayWait (c : Thread nD τ) (.dma (lS p)) () (Ol c l) := by
  refine mayWait_of c _ l ?_
  intro s _
  exact lvS_load p s

/-- The records allow each wait. -/
theorem recs_out (K : Dev nD × Cix → ℕ) (t : T) (c : Dev nD) (l : List T) : recs m K ⊢ MayWait (c : Thread nD τ) (.dma (oS t)) () (Ol c l) :=
  (recs_lev (F := F) m K).trans (mayWait_out (F := F) t c l)
theorem recs_load (K : Dev nD × Cix → ℕ) (p : Fin 2) (c : Dev nD) (l : List T) : recs m K ⊢ MayWait (c : Thread nD τ) (.dma (lS p)) () (Ol c l) :=
  (recs_lev (F := F) m K).trans (mayWait_load (F := F) p c l)
theorem recs_snd (K : Dev nD × Cix → ℕ) (t : T) (c : Dev nD) (l : List T) : recs m K ⊢ MayWait (c : Thread nD τ) (.dma (sS t)) () (Ol c l) :=
  (recs_lev (F := F) m K).trans (mayWait_of c (csem (some (false, t))) l (fun s _ => by rw [lvS_snd]; exact lvT_pos s))
/-- What a wait for an arrival and a wait for a copy sent return. -/
theorem got_rcv (t : T) (c : Dev nD) :
    (bigSep ((Rd m).duties ((c : Thread nD τ), .dma (rS t)) 0 \ ∅) fun d => (Rd m).payload ((c : Thread nD τ), .dma (rS t)) 0 d : sProp 𝕄) ⊢ dstO m t c := Entails.of_eq (rest_rcv m c t)
theorem got_snd (t : T) (c : Dev nD) :
    (bigSep ((Rd m).duties ((c : Thread nD τ), .dma (sS t)) 0 \ ∅) fun d => (Rd m).payload ((c : Thread nD τ), .dma (sS t)) 0 d : sProp 𝕄) ⊢ srcO m t c := Entails.of_eq (rest_snd m c t)

/-- **The wait for an arrival.** -/
theorem step_recv {Q : α → sProp 𝕄} {H : sProp 𝕄} (t : T) (hl : ∀ s ∈ pe, lvT t < lvT s) {sp' : Space} {s' : Shape} {e' : EltTy} {srcw : Memref sig .tc sp' s' e'}
    {hsrc : srcw.view.WordExact} {hdst : (dstM t).view.WordExact} {k : PUnit → Prog (TpuEff nD τ sig (Elt F) Λ₀ .tc) α}
    (h : St m c iprop(dstO m t c ∗ H) fr sl fl mr pe sd du (t :: rd) of oy od sn ⊢ WP c (k ⟨⟩) Q) :
    St m c H fr sl fl mr pe sd (t :: du) rd of oy od sn ⊢ WP c (.op (.waitDma2 (rS t) srcw (dstM t) hsrc hdst) k) Q := by
  unfold St at h ⊢
  rw [bs_cons, rdone] at h
  rw [bs_cons, due]
  iintro ⟨%K, %W, #HR, HO, HH, Hfr, Hsl, Hfl, Hmr, Hpe, Hsd, ⟨⟨Hc, Hat⟩, Hdu⟩, Hrd, Hof, Hoy, Hod, Hsn⟩
  iapply (Rounds.wp_wait_rest_token 𝒱₀ ER (Rd m) (c : Thread nD τ) none (κ := K (c, some (true, t)))
      (wpE_waitDma2_eq 𝒱₀ (c : Thread nD τ) none Set.univ) (Set.mem_univ _) () (O := Ol c pe) (W := W) (R := 0) (m := 0) (T := ∅)
      (by rw [Nat.zero_add]; exact (expect_rcv m c t).symm)) $$ [Hc HO Hat]
  · isplitr; · iapply (recs_inv m K (c, some (true, t))); iexact HR
    isplitl [Hc]; · iexact Hc
    isplitl [HO]; · iexact HO
    isplitr
    · iapply (mayWait_of c (csem (some (true, t))) pe (fun s hs => by rw [lvS_rcv]; exact hl s hs)); iapply (recs_lev m K); iexact HR
    iexact Hat
  iintro ⟨HO, Hat, -, Hp⟩
  ihave Hp := (got_rcv (m := m) t c) $$ Hp
  imod (Rounds.cell_close ER (Rd m) (Set.mem_univ (K (c, some (true, t)))) (fun h => h) (R := 0 + 1) (duties_later m (rcvCell t c))) $$ [Hat] with Hz
  · isplitr; · iapply (recs_inv m K (c, some (true, t))); iexact HR
    iexact Hat
  iapply h
  iexists K
  iexists (insert (csem (some (true, t)), ()) W)
  iclose

/-- **The wait for a copy sent to be read.** -/
theorem step_sent {Q : α → sProp 𝕄} {H : sProp 𝕄} (t : T) {sp' : Space} {s' : Shape} {e' : EltTy} {srcw : Memref sig .tc sp' s' e'}
    {hsrc : srcw.view.WordExact} {hdst : (srcM t).view.WordExact} {k : PUnit → Prog (TpuEff nD τ sig (Elt F) Λ₀ .tc) α}
    (h : St m c H fr sl fl mr pe sd du rd of oy od (t :: sn) ⊢ WP c (k ⟨⟩) Q) :
    St m c H fr sl fl mr pe (t :: sd) du rd of oy od sn ⊢ WP c (.op (.waitDma2 (sS t) srcw (srcM t) hsrc hdst) k) Q := by
  unfold St at h ⊢
  rw [bs_cons, sdone] at h
  rw [bs_cons, sentI, ← credit_src]
  iintro ⟨%K, %W, #HR, HO, HH, Hfr, Hsl, Hfl, Hmr, Hpe, ⟨⟨Hc, Hat⟩, Hsd⟩, Hdu, Hrd, Hof, Hoy, Hod, Hsn⟩
  iapply (Rounds.wp_wait_rest_token 𝒱₀ ER (Rd m) (c : Thread nD τ) none (κ := K (c, some (false, t)))
      (wpE_waitDma2_eq 𝒱₀ (c : Thread nD τ) none Set.univ) (Set.mem_univ _) () (O := Ol c pe) (W := W) (R := 0) (m := 0) (T := ∅)
      (by rw [Nat.zero_add, credit_src]; exact (expect_snd m c t).symm)) $$ [Hc HO Hat]
  · isplitr; · iapply (recs_inv m K (c, some (false, t))); iexact HR
    isplitl [Hc]; · iexact Hc
    isplitl [HO]; · iexact HO
    isplitr; · iapply (recs_snd (m := m) K t c pe); iexact HR
    iexact Hat
  iintro ⟨HO, Hat, -, Hp⟩
  ihave Hp := (got_snd (m := m) t c) $$ Hp
  imod (Rounds.cell_close ER (Rd m) (Set.mem_univ (K (c, some (false, t)))) (fun h => h) (R := 0 + 1) (duties_later m (sndCell t c))) $$ [Hat] with Hz
  · isplitr; · iapply (recs_inv m K (c, some (false, t))); iexact HR
    iexact Hat
  iapply h
  iexists K
  iexists (insert (csem (some (false, t)), ()) W)
  iclose

/-- What a copy to the result array leaves. -/
theorem out_done (t : T) (c : Dev nD) (f : Buf (Elt F) ((dstM t).view.loc (c : Thread nD τ))) (fd : Buf (Elt F) ((outM t c).view.loc (c : Thread nD τ)))
    (hf : (dstM t).view.read (Elt F) f = oval m t c) :
    iprop(((outM t c).view.loc (c : Thread nD τ) ↦[(outM t c).view.set]{fullShare} (outM t c).view.write (Elt F) fd (ReadAs.same.apply ((dstM t).view.read (Elt F) f)) Finset.univ)
      ∗ ((dstM t).view.loc (c : Thread nD τ) ↦[(dstM t).view.set]{qo t} f))
    ⊢ (iprop(owns (c : Thread nD τ) (outM t c) fullShare (oval m t c) ∗ sumO m t c (qo t)) : sProp 𝕄) := by
  iintro ⟨Hd, Hs⟩
  isplitl [Hd]
  · iapply (owns_of ((View.read_write_univ _ _).trans hf)); iexact Hd
  · unfold sumO; iapply (owns_of hf); iexact Hs

/-- **A copy to the result array.** -/
theorem step_out {Q : α → sProp 𝕄} {H : sProp 𝕄} (t : T) {off : Fin 2 → ℕ} (ho : off = ![og t c, 0])
    {inb : ∀ a, off a + (![rows t, 1024] : Fin 2 → ℕ) a ≤ S16384x1024.size a} {hu : ∀ a, (Rect.unit (s := S16384x1024) off ![rows t, 1024] inb).stride a = 1}
    {hsrc : (dstM t).view.WordExact} {hdst : ((Memref.whole main_v1).slice (Rect.unit (s := S16384x1024) off ![rows t, 1024] inb) hu).view.WordExact}
    {hsem}
    {k : PUnit → Prog (TpuEff nD τ sig (Elt F) Λ₀ .tc) α}
    (h : St m c H fr sl fl mr pe sd du rd of (t :: oy) od sn ⊢ WP c (k ⟨⟩) Q) :
    St m c iprop(sumO m t c (qo t) ∗ H) fr sl fl mr pe sd du rd (t :: of) oy od sn
      ⊢ WP c (.op (.enqueueDma (dstM t) (.here ((Memref.whole main_v1).slice (Rect.unit (s := S16384x1024) off ![rows t, 1024] inb) hu)) (.dma (oS t)) hsrc hdst hsem) k) Q := by
  subst ho
  unfold St at h ⊢
  rw [bs_cons] at h
  rw [bs_cons, ofree, sumO, owns]
  iintro ⟨%K, %W, #HR, HO, ⟨⟨%f, %hf, Hs⟩, HH⟩, Hfr, Hsl, Hfl, Hmr, Hpe, Hsd, Hdu, Hrd, ⟨⟨Hv, %fd, Hd⟩, Hof⟩, Hoy, Hod, Hsn⟩
  iapply (Transfers.wp_dmaLocal EC 𝒱₀ (c : Thread nD τ) none (dst := outM t c) () (N t) (show (outM t c).view.amount (.dma (oS t)) = N t from credit_out t c) (N_pos t) subset_rfl) $$ [Hs Hd Hv]
  · isplitl [Hs]; · iexact Hs
    isplitl [Hd] <;> iassumption
  iintro Hf
  ihave Hf := (show _ ⊢ ofly m c t from Transfers.Flight_mono EC (c : Thread nD τ)
    (out_done t c f fd hf)) $$ Hf
  iapply h
  iexists K
  iexists W
  iclose

/-- **The wait for it.** -/
theorem step_flown {Q : α → sProp 𝕄} {H : sProp 𝕄} (t : T) {sp' : Space} {s' : Shape} {e' : EltTy} {srcw : Memref sig .tc sp' s' e'}
    {hsrc : srcw.view.WordExact} {hdst : (dstM t).view.WordExact} {k : PUnit → Prog (TpuEff nD τ sig (Elt F) Λ₀ .tc) α}
    (h : St m c H fr sl fl mr pe sd du rd of oy (t :: od) sn ⊢ WP c (k ⟨⟩) Q) :
    St m c H fr sl fl mr pe sd du rd of (t :: oy) od sn ⊢ WP c (.op (.waitDma2 (oS t) srcw (dstM t) hsrc hdst) k) Q := by
  unfold St at h ⊢
  rw [bs_cons, odone] at h
  rw [bs_cons, ofly]
  iintro ⟨%K, %W, #HR, HO, HH, Hfr, Hsl, Hfl, Hmr, Hpe, Hsd, Hdu, Hrd, Hof, ⟨Hf, Hoy⟩, Hod, Hsn⟩
  ihave Hw := (recs_out (m := m) K t c pe) $$ HR
  iapply (Transfers.wp_waitLocalO EC 𝒱₀ (c : Thread nD τ) none () (O := Ol c pe) (W := W) (credit_dst t)) $$ [Hf HO Hw]
  · isplitl [Hf]; · iexact Hf
    isplitl [HO]; · iexact HO
    iexact Hw
  iintro ⟨⟨H1, H2⟩, Hz, HO⟩
  iapply h
  iexists K
  iexists (insert (SemLoc.dma (oS t), ()) W)
  iclose

/-- A chunk is loaded into its place. -/
theorem stg_sub (t : T) : (stgM t).view.set ⊆ stgSet (par t) := by
  unfold stgM stgSet
  rw [show ((((Memref.whole cc0_scratch4).slice (stgR (par t).val (rows t) (par t).isLt (rows_le t)) (fun _ => rfl)).squeeze ⟨2, ![rows t, 1024]⟩ (sq_stg t)).view.set)
    = (stgR (par t).val (rows t) (par t).isLt (rows_le t)).set from (View.set_reshape _ _).trans (View.set_slice_whole _ _)]
  intro i hi
  have hi := Rect.mem_set_unit.mp hi
  refine Rect.mem_set_unit.mpr ?_
  intro a
  refine ⟨(hi a).1, (hi a).2.trans_le ?_⟩
  revert a
  refine Fin.forall_fin_succ.mpr ⟨le_rfl, Fin.forall_fin_two.mpr ⟨?_, le_rfl⟩⟩
  exact Nat.add_le_add_left (rows_le t) 0

theorem stg_credit_pos (t : T) : 0 < (stgM t).view.dmaCredit := View.dmaCredit_pos _ (win_numel (rows_pos t))

/-- The rows of the operand a window reads. -/
theorem in_read (t : T) (c : Dev nD) : (inM t c).view.read (Elt F) (m ((c : Thread nD τ).loc main_arg0)) = rowsOf (xin m c) (og t c) (rows t) (og_le t c) := by
  funext i
  show xin m c _ = xin m c _
  congr 1
  funext a
  apply Fin.ext
  revert a
  refine Fin.forall_fin_two.mpr ⟨?_, ?_⟩
  · show og t c + 1 * (i 0).val = og t c + (i 0).val; omega
  · show 0 + 1 * (i 1).val = (i 1).val; omega

/-- What a load leaves: the place holding the rows of the operand. -/
theorem load_done (t : T) (c : Dev nD) (fd : Buf (Elt F) ((stgM t).view.loc (c : Thread nD τ))) (q : PosShare TreeShare) :
    iprop(((stgM t).view.loc (c : Thread nD τ) ↦[stgSet (par t)]{fullShare} (stgM t).view.write (Elt F) fd (ReadAs.same.apply ((inM t c).view.read (Elt F) (m ((c : Thread nD τ).loc main_arg0)))) Finset.univ)
      ∗ ((inM t c).view.loc (c : Thread nD τ) ↦[(inM t c).view.set]{q} (m ((c : Thread nD τ).loc main_arg0))))
    ⊢ (∃ f : Buf (Elt F) ((c : Thread nD τ).loc cc0_scratch4), ⌜(stgM t).view.read (Elt F) f = rowsOf (xin m c) (og t c) (rows t) (og_le t c)⌝
        ∗ ((c : Thread nD τ).loc cc0_scratch4 ↦[stgSet (par t)]{fullShare} f) : sProp 𝕄) := by
  iintro ⟨Hd, -⟩
  iexists ((stgM t).view.write (Elt F) fd ((inM t c).view.read (Elt F) (m ((c : Thread nD τ).loc main_arg0))) Finset.univ)
  isplitr; · ipureintro; exact (View.read_write_univ _ _).trans (in_read t c)
  iexact Hd

/-- **A copy of a window of the argument into a place of the staging buffer.** -/
theorem step_load {Q : α → sProp 𝕄} {H : sProp 𝕄} (t : T) {off : Fin 2 → ℕ} (ho : off = ![og t c, 0]) {fl' : List T} (hfl : fl ++ [t] = fl')
    {inb : ∀ a, off a + (![rows t, 1024] : Fin 2 → ℕ) a ≤ S16384x1024.size a} {hu : ∀ a, (Rect.unit (s := S16384x1024) off ![rows t, 1024] inb).stride a = 1}
    {hsrc : ((Memref.whole main_arg0).slice (Rect.unit (s := S16384x1024) off ![rows t, 1024] inb) hu).view.WordExact} {hdst : (stgM t).view.WordExact} {hsem}
    {k : PUnit → Prog (TpuEff nD τ sig (Elt F) Λ₀ .tc) α}
    (h : St m c H fr sl fl' mr pe sd du rd of oy od sn ⊢ WP c (k ⟨⟩) Q) :
    St m c H (t :: fr) (par t :: sl) fl mr pe sd du rd of oy od sn
      ⊢ WP c (.op (.enqueueDma ((Memref.whole main_arg0).slice (Rect.unit (s := S16384x1024) off ![rows t, 1024] inb) hu) (.here (stgM t)) (.dma (lS (par t))) hsrc hdst hsem) k) Q := by
  subst ho hfl
  unfold St at h ⊢
  rw [bs_cons, bs_cons, lfree, slot]
  iintro ⟨%K, %W, #HR, HO, HH, ⟨⟨⟨%q, Hs⟩, Hm⟩, Hfr⟩, ⟨⟨Hv, %fd, Hd⟩, Hsl⟩, Hfl, Hmr, Hpe, Hsd, Hdu, Hrd, Hof, Hoy, Hod, Hsn⟩
  iapply (Transfers.wp_dmaLocal EC 𝒱₀ (c : Thread nD τ) none (src := inM t c) () ((stgM t).view.dmaCredit) rfl (stg_credit_pos t) (stg_sub t)) $$ [Hs Hd Hv]
  · isplitl [Hs]; · iexact Hs
    isplitl [Hd]; · iexact Hd
    iexact Hv
  iintro Hf
  ihave Hf := (show _ ⊢ lfly0 m c t from Transfers.Flight_mono EC (c : Thread nD τ) (load_done t c fd q)) $$ Hf
  ihave Hfl := (bs_snoc fl t (lfly m c)).2 $$ [Hf Hm Hfl]
  · rw [lfly]; iclose
  iapply h
  iexists K
  iexists W
  iclose

/-! ### The device's own chunks -/

theorem ax_lt : ∀ t : T, t.val < 10 → ax t = .x := by decide
theorem via_lt : ∀ t : T, t.val < 10 → via t = t := by decide
theorem qs_lt : ∀ t : T, t.val < 10 → qs t = fullShare.left := by
  intro t h
  unfold qs
  rw [if_neg]
  revert t; decide
theorem org_lt (t : T) (c : Dev nD) (h : t.val < 10) : org t c = c := if_pos h

theorem rowsOf_congr {e : EltTy} {g g' : S16384x1024.Idx → Elt F e} {o o' n : ℕ} {ho : o + n ≤ 16384} {ho' : o' + n ≤ 16384} (hg : g = g') (hoo : o = o') :
    rowsOf g o n ho = rowsOf g' o' n ho' := by subst hg hoo; rfl

/-- What a device sends of its own: its rows, rounded. -/
theorem arr_own (t : T) (c : Dev nD) (h : t.val < 10) : arr m t (nb (ax t) c) = rowsOf (xtr m c) (og t c) (rows t) (og_le t c) := by
  unfold arr
  rw [if_pos h]
  refine rowsOf_congr ?_ ?_
  · rw [ax_lt t h]; exact congrArg _ (nb_nb .x c)
  · rw [og_nb, via_lt t h]
/-- What it receives: its neighbour's. -/
theorem arr_lt (t : T) (c : Dev nD) (h : t.val < 10) : arr m t c = rowsOf (xtr m (px c)) (og t c) (rows t) (og_le t c) := if_pos h

/-- The rounding of the rows loaded. -/
theorem round_rows (t : T) (c : Dev nD) (f : Buf (Elt F) ((c : Thread nD τ).loc cc0_scratch4))
    (hf : (stgM t).view.read (Elt F) f = rowsOf (xin m c) (og t c) (rows t) (og_le t c)) (h : Shape.ShapeCasts _ _) :
    truncf .bf16 (show FVec F ⟨2, ![rows t, 1024]⟩ .f32 from
      shapeCast ⟨2, ![rows t, 1024]⟩ (((Memref.whole cc0_scratch4).access (stgR (par t).val (rows t) (par t).isLt (rows_le t))).read (Elt F) f) h) bitsLt_bf16_f32
      = rowsOf (xtr m c) (og t c) (rows t) (og_le t c) := by
  rw [show shapeCast ⟨2, ![rows t, 1024]⟩ (((Memref.whole cc0_scratch4).access (stgR (par t).val (rows t) (par t).isLt (rows_le t))).read (Elt F) f) h
    = (stgM t).view.read (Elt F) f from rfl, hf]
  rfl

/-- A chunk stored, split in the half that is sent and the half that stays. -/
theorem mine_halves (t : T) (c : Dev nD) (ht : t.val < 10) :
    (owns (c : Thread nD τ) (srcM t) fullShare (arr m t (nb (ax t) c)) : sProp 𝕄) ⊢ iprop(srcO m t c ∗ mineR m c t) := by
  unfold srcO mineR
  rw [qs_lt t ht]
  exact (owns_halves (c : Thread nD τ) (srcM t) fullShare _).1

theorem stg_acc_sub (t : T) : ((Memref.whole cc0_scratch4).access (stgR (par t).val (rows t) (par t).isLt (rows_le t))).set ⊆ stgSet (par t) := by
  have h := stg_sub t
  rwa [show (stgM t).view.set = ((Memref.whole cc0_scratch4).access (stgR (par t).val (rows t) (par t).isLt (rows_le t))).set from View.set_reshape _ _] at h

/-- The store of a chunk leaves the half that is sent and the half that stays. -/
theorem mine_stored (t : T) (c : Dev nD) (ht : t.val < 10) {n l : ℕ} {mm : Memref sig .tc .vmem ⟨2, ![n, 1024]⟩ .bf16}
    {hr : ∀ a, (![l, 0] : Fin 2 → ℕ) a + (![rows t, 1024] : Fin 2 → ℕ) a ≤ (⟨2, ![n, 1024]⟩ : Shape).size a}
    (hm : mm.slice (Rect.unit (s := ⟨2, ![n, 1024]⟩) ![l, 0] ![rows t, 1024] hr) (fun _ => rfl) = srcM t)
    (f : Buf (Elt F) (mm.view.loc (c : Thread nD τ))) (w : (⟨2, ![rows t, 1024]⟩ : Shape).Idx → Elt F .bf16) (hw : w = rowsOf (xtr m c) (og t c) (rows t) (og_le t c)) :
    ((mm.access (Rect.unit (s := ⟨2, ![n, 1024]⟩) ![l, 0] ![rows t, 1024] hr)).loc (c : Thread nD τ)
      ↦[(mm.access (Rect.unit (s := ⟨2, ![n, 1024]⟩) ![l, 0] ![rows t, 1024] hr)).setOn Finset.univ]{fullShare}
        (mm.access (Rect.unit (s := ⟨2, ![n, 1024]⟩) ![l, 0] ![rows t, 1024] hr)).write (Elt F) f w Finset.univ : sProp 𝕄) ⊢ iprop(srcO m t c ∗ mineR m c t) := by
  have h := mine_halves (m := m) t c ht
  rw [← hm] at h
  exact (owns_of (c := (c : Thread nD τ)) (mm := mm.slice (Rect.unit (s := ⟨2, ![n, 1024]⟩) ![l, 0] ![rows t, 1024] hr) (fun _ => rfl))
    ((View.read_write_univ _ _).trans (hw.trans (arr_own t c ht).symm))).trans h

theorem slot_of (s : Fin 2) (c : Dev nD) (f : Buf (Elt F) ((c : Thread nD τ).loc cc0_scratch4)) :
    iprop(semVal ((c : Thread nD τ), .dma (lS s)) 0 ∗ ((c : Thread nD τ).loc cc0_scratch4 ↦[stgSet s]{fullShare} f)) ⊢ (slot c s : sProp 𝕄) := by
  unfold slot
  iintro ⟨Hz, Hd⟩
  isplitl [Hz]; · iexact Hz
  iexists f; iexact Hd

/-- **A chunk of the device's own rows**: the wait for its load, the load, the rounding and the store. -/
theorem step_mine {Q : α → sProp 𝕄} {H : sProp 𝕄} (t : T) (ht : t.val < 10) {n l : ℕ} {mm : Memref sig .tc .vmem ⟨2, ![n, 1024]⟩ .bf16}
    {hr : ∀ a, (![l, 0] : Fin 2 → ℕ) a + (![rows t, 1024] : Fin 2 → ℕ) a ≤ (⟨2, ![n, 1024]⟩ : Shape).size a}
    (hm : mm.slice (Rect.unit (s := ⟨2, ![n, 1024]⟩) ![l, 0] ![rows t, 1024] hr) (fun _ => rfl) = srcM t)
    {pay : ((⟨3, ![1, rows t, 1024]⟩ : Shape).Idx → Elt F .f32) → (⟨2, ![rows t, 1024]⟩ : Shape).Idx → Elt F .bf16} {hc}
    (hpay : ∀ v, pay v = truncf .bf16 (show FVec F ⟨2, ![rows t, 1024]⟩ .f32 from shapeCast ⟨2, ![rows t, 1024]⟩ v hc) bitsLt_bf16_f32)
    {sp' : Space} {s' : Shape} {e' : EltTy} {srcw : Memref sig .tc sp' s' e'}
    {hsrc : srcw.view.WordExact} {hdst : (stgM t).view.WordExact} {l1 l2 s1 s2}
    {k : PUnit → Prog (TpuEff nD τ sig (Elt F) Λ₀ .tc) α}
    (h : St m c iprop(srcO m t c ∗ H) fr (par t :: sl) fl (t :: mr) pe sd du rd of oy od sn ⊢ WP c (k ⟨⟩) Q) :
    St m c H fr sl (t :: fl) mr pe sd du rd of oy od sn
      ⊢ WP c (.op (.waitDma2 (lS (par t)) srcw (stgM t) hsrc hdst) fun _ =>
          .op (.load (Memref.whole cc0_scratch4) (stgR (par t).val (rows t) (par t).isLt (rows_le t)).toLoadRect l1) fun v =>
          .op (.load mm (Rect.unit (s := ⟨2, ![n, 1024]⟩) ![l, 0] ![rows t, 1024] hr).toLoadRect l2) fun _ =>
          .op (.store mm (Rect.unit (s := ⟨2, ![n, 1024]⟩) ![l, 0] ![rows t, 1024] hr) (pay v) Finset.univ s1 s2) k) Q := by
  unfold St at h ⊢
  rw [bs_cons (par t), bs_cons t mr] at h
  rw [bs_cons, lfly, lfly0, ← hm]
  iintro ⟨%K, %W, #HR, HO, HH, Hfr, Hsl, ⟨⟨Hf, %fm, Hm⟩, Hfl⟩, Hmr, Hpe, Hsd, Hdu, Hrd, Hof, Hoy, Hod, Hsn⟩
  ihave Hw := (recs_load (m := m) K (par t) c pe) $$ HR
  iapply (Transfers.wp_waitLocalO EC 𝒱₀ (c : Thread nD τ) none () (O := Ol c pe) (W := W) rfl) $$ [Hf HO Hw]
  · isplitl [Hf]; · iexact Hf
    isplitl [HO]; · iexact HO
    iexact Hw
  iintro ⟨⟨%f, %hf, Hd⟩, Hz, HO⟩
  iapply (wp_load_rect 𝒱₀ (c : Thread nD τ) none Set.univ (m := Memref.whole cc0_scratch4) (r := stgR (par t).val (rows t) (par t).isLt (rows_le t)) (S := stgSet (par t)) (q := fullShare) (f := f) (stg_acc_sub t)) $$ [Hd]
  · iexact Hd
  iintro Hd
  iapply (wp_load_rect 𝒱₀ (c : Thread nD τ) none Set.univ (m := mm) (r := Rect.unit (s := ⟨2, ![n, 1024]⟩) ![l, 0] ![rows t, 1024] hr) (q := fullShare) (f := fm) subset_rfl) $$ [Hm]
  · iexact Hm
  iintro Hm
  iapply (wp_store 𝒱₀ (c : Thread nD τ) none Set.univ (m := mm) (r := Rect.unit (s := ⟨2, ![n, 1024]⟩) ![l, 0] ![rows t, 1024] hr) (Mk := Finset.univ) (f := fm) subset_rfl) $$ [Hm]
  · iexact Hm
  iintro Hm
  ihave Hm := (mine_stored t c ht hm fm _ ((hpay _).trans (round_rows t c f hf hc))) $$ Hm
  icases Hm with ⟨Hs, Hr⟩
  ihave Hz := (slot_of (par t) c f) $$ [Hz Hd]
  · isplitl [Hz]; · iexact Hz
    iexact Hd
  iapply h
  iexists K
  iexists (insert (SemLoc.dma (lS (par t)), ()) W)
  iclose

/-- The sum of a chunk received and the device's own. -/
theorem add_rows (t : T) (c : Dev nD) (ht : t.val < 10) :
    addf (show FVec F ⟨2, ![rows t, 1024]⟩ .bf16 from arr m t c) (show FVec F ⟨2, ![rows t, 1024]⟩ .bf16 from arr m t (nb (ax t) c)) = oval m t c := by
  rw [arr_own t c ht, arr_lt t c ht]
  unfold oval
  rw [org_lt t c ht]
  rfl

theorem add_stored (t : T) (c : Dev nD) {n l : ℕ} {mm : Memref sig .tc .vmem ⟨2, ![n, 1024]⟩ .bf16}
    {hr : ∀ a, (![l, 0] : Fin 2 → ℕ) a + (![rows t, 1024] : Fin 2 → ℕ) a ≤ (⟨2, ![n, 1024]⟩ : Shape).size a}
    (hm : mm.slice (Rect.unit (s := ⟨2, ![n, 1024]⟩) ![l, 0] ![rows t, 1024] hr) (fun _ => rfl) = dstM t)
    (f : Buf (Elt F) (mm.view.loc (c : Thread nD τ))) (w : (⟨2, ![rows t, 1024]⟩ : Shape).Idx → Elt F .bf16) (hw : w = oval m t c) :
    ((mm.access (Rect.unit (s := ⟨2, ![n, 1024]⟩) ![l, 0] ![rows t, 1024] hr)).loc (c : Thread nD τ)
      ↦[(mm.access (Rect.unit (s := ⟨2, ![n, 1024]⟩) ![l, 0] ![rows t, 1024] hr)).setOn Finset.univ]{fullShare}
        (mm.access (Rect.unit (s := ⟨2, ![n, 1024]⟩) ![l, 0] ![rows t, 1024] hr)).write (Elt F) f w Finset.univ : sProp 𝕄) ⊢ sumO m t c fullShare := by
  unfold sumO
  rw [← hm]
  exact owns_of (c := (c : Thread nD τ)) (mm := mm.slice (Rect.unit (s := ⟨2, ![n, 1024]⟩) ![l, 0] ![rows t, 1024] hr) (fun _ => rfl)) ((View.read_write_univ _ _).trans hw)

theorem mine_open (t : T) (c : Dev nD) {mm : Memref sig .tc .vmem ⟨2, ![rows t, 1024]⟩ .bf16} (hm : mm = srcM t) :
    (mineR m c t : sProp 𝕄) ⊢ iprop(∃ f : Buf (Elt F) (mm.view.loc (c : Thread nD τ)), ⌜mm.view.read (Elt F) f = arr m t (nb (ax t) c)⌝ ∗ (mm.view.loc (c : Thread nD τ) ↦[mm.view.set]{fullShare.right} f)) := by
  subst hm
  exact Entails.rfl

theorem mine_back (t : T) (c : Dev nD) {mm : Memref sig .tc .vmem ⟨2, ![rows t, 1024]⟩ .bf16} (hm : mm = srcM t)
    {f : Buf (Elt F) (mm.view.loc (c : Thread nD τ))} (hf : mm.view.read (Elt F) f = arr m t (nb (ax t) c)) :
    (mm.view.loc (c : Thread nD τ) ↦[mm.view.set]{fullShare.right} f : sProp 𝕄) ⊢ mineR m c t := by
  subst hm
  exact owns_of hf

/-- **The sum of a chunk received and the device's own**, stored where the chunk came. -/
theorem step_add {Q : α → sProp 𝕄} {H : sProp 𝕄} (t : T) (ht : t.val < 10) (hmr : t ∈ mr) {n l n' l' : ℕ}
    {m1 : Memref sig .tc .vmem ⟨2, ![n, 1024]⟩ .bf16} {m0 : Memref sig .tc .vmem ⟨2, ![n', 1024]⟩ .bf16}
    {hr : ∀ a, (![l, 0] : Fin 2 → ℕ) a + (![rows t, 1024] : Fin 2 → ℕ) a ≤ (⟨2, ![n, 1024]⟩ : Shape).size a}
    {hr' : ∀ a, (![l', 0] : Fin 2 → ℕ) a + (![rows t, 1024] : Fin 2 → ℕ) a ≤ (⟨2, ![n', 1024]⟩ : Shape).size a}
    (hm1 : m1.slice (Rect.unit (s := ⟨2, ![n, 1024]⟩) ![l, 0] ![rows t, 1024] hr) (fun _ => rfl) = dstM t)
    (hm0 : m0.slice (Rect.unit (s := ⟨2, ![n', 1024]⟩) ![l', 0] ![rows t, 1024] hr') (fun _ => rfl) = srcM t)
    {pay : ((⟨2, ![rows t, 1024]⟩ : Shape).Idx → Elt F .bf16) → ((⟨2, ![rows t, 1024]⟩ : Shape).Idx → Elt F .bf16) → (⟨2, ![rows t, 1024]⟩ : Shape).Idx → Elt F .bf16}
    (hpay : ∀ a b, pay a b = addf (show FVec F ⟨2, ![rows t, 1024]⟩ .bf16 from a) (show FVec F ⟨2, ![rows t, 1024]⟩ .bf16 from b))
    {l1 l2 l3 s1 s2} {k : PUnit → Prog (TpuEff nD τ sig (Elt F) Λ₀ .tc) α}
    (h : St m c iprop(sumO m t c fullShare ∗ H) fr sl fl mr pe sd du rd of oy od sn ⊢ WP c (k ⟨⟩) Q) :
    St m c iprop(dstO m t c ∗ H) fr sl fl mr pe sd du rd of oy od sn
      ⊢ WP c (.op (.load m1 (Rect.unit (s := ⟨2, ![n, 1024]⟩) ![l, 0] ![rows t, 1024] hr).toLoadRect l1) fun a =>
          .op (.load m0 (Rect.unit (s := ⟨2, ![n', 1024]⟩) ![l', 0] ![rows t, 1024] hr').toLoadRect l2) fun b =>
          .op (.load m1 (Rect.unit (s := ⟨2, ![n, 1024]⟩) ![l, 0] ![rows t, 1024] hr).toLoadRect l3) fun _ =>
          .op (.store m1 (Rect.unit (s := ⟨2, ![n, 1024]⟩) ![l, 0] ![rows t, 1024] hr) (pay a b) Finset.univ s1 s2) k) Q := by
  unfold St at h ⊢
  rw [dstO, owns, ← hm1]
  iintro ⟨%K, %W, #HR, HO, ⟨⟨%f, %hf, Hd⟩, HH⟩, Hfr, Hsl, Hfl, Hmr, Hpe, Hsd, Hdu, Hrd, Hof, Hoy, Hod, Hsn⟩
  ihave ⟨Hm, Hb⟩ := (bs_mem hmr (mineR m c)) $$ Hmr
  ihave ⟨%g, %hg, Hm⟩ := (mine_open t c hm0) $$ Hm
  iapply (wp_load_rect 𝒱₀ (c : Thread nD τ) none Set.univ (m := m1) (r := Rect.unit (s := ⟨2, ![n, 1024]⟩) ![l, 0] ![rows t, 1024] hr) (q := fullShare) (f := f) subset_rfl) $$ [Hd]
  · iexact Hd
  iintro Hd
  iapply (wp_load_rect 𝒱₀ (c : Thread nD τ) none Set.univ (m := m0) (r := Rect.unit (s := ⟨2, ![n', 1024]⟩) ![l', 0] ![rows t, 1024] hr') (q := fullShare.right) (f := g) subset_rfl) $$ [Hm]
  · iexact Hm
  iintro Hm
  iapply (wp_load_rect 𝒱₀ (c : Thread nD τ) none Set.univ (m := m1) (r := Rect.unit (s := ⟨2, ![n, 1024]⟩) ![l, 0] ![rows t, 1024] hr) (q := fullShare) (f := f) subset_rfl) $$ [Hd]
  · iexact Hd
  iintro Hd
  iapply (wp_store 𝒱₀ (c : Thread nD τ) none Set.univ (m := m1) (r := Rect.unit (s := ⟨2, ![n, 1024]⟩) ![l, 0] ![rows t, 1024] hr) (Mk := Finset.univ) (f := f) subset_rfl) $$ [Hd]
  · iexact Hd
  iintro Hd
  ihave Hd := (add_stored t c hm1 f _ ((hpay _ _).trans ((congrArg₂ _ hf hg).trans (add_rows t c ht)))) $$ Hd
  ihave Hm := (mine_back t c hm0 hg) $$ Hm
  ihave Hmr := Hb $$ Hm
  iapply h
  iexists K
  iexists W
  iclose

/-! ### Lending -/

/-- What is in hand, rearranged. -/
theorem step_hand {Q : α → sProp 𝕄} {H H' : sProp 𝕄} (hH : H ⊢ H') {p : Prog (TpuEff nD τ sig (Elt F) Λ₀ .tc) α}
    (h : St m c H' fr sl fl mr pe sd du rd of oy od sn ⊢ WP c p Q) : St m c H fr sl fl mr pe sd du rd of oy od sn ⊢ WP c p Q := by
  unfold St at h ⊢
  iintro ⟨%K, %W, #HR, HO, HH, Hfr, Hsl, Hfl, Hmr, Hpe, Hsd, Hdu, Hrd, Hof, Hoy, Hod, Hsn⟩
  ihave HH := hH $$ HH
  iapply h
  iexists K
  iexists W
  iclose

theorem sum_halves (t : T) (c : Dev nD) (q : PosShare TreeShare) : (sumO m t c q : sProp 𝕄) ⊣⊢ iprop(sumO m t c q.left ∗ sumO m t c q.right) :=
  owns_halves (c : Thread nD τ) (dstM t) q _

/-- A window lent to one further copy `s` and to the copy to the result array. -/
theorem lend_one {H : sProp 𝕄} (t s : T) (c : Dev nD) (hs : ¬ s.val < 10) (hv : via s = t) (hq : qs s = fullShare.left) (ho : qo t = fullShare.right) :
    iprop(sumO m t c fullShare ∗ H) ⊢ iprop(srcO m s c ∗ sumO m t c (qo t) ∗ H) := by
  subst hv
  rw [← sumO_via m s c hs, hq, ho]
  iintro ⟨Hs, HH⟩
  ihave ⟨H1, H2⟩ := (sum_halves (via s) c fullShare).1 $$ Hs
  iclose

/-- A window lent to two further copies `s`, `s'` and to the copy to the result array. -/
theorem lend_two {H : sProp 𝕄} (t s s' : T) (c : Dev nD) (hs : ¬ s.val < 10) (hs' : ¬ s'.val < 10) (hv : via s = t) (hv' : via s' = t) (hq : qs s = fullShare.left)
    (hq' : qs s' = fullShare.right.left) (ho : qo t = fullShare.right.right) :
    iprop(sumO m t c fullShare ∗ H) ⊢ iprop(srcO m s c ∗ srcO m s' c ∗ sumO m t c (qo t) ∗ H) := by
  subst hv
  rw [← sumO_via m s c hs, ← sumO_via m s' c hs', hv', hq, hq', ho]
  iintro ⟨Hs, HH⟩
  ihave ⟨H1, H2⟩ := (sum_halves (via s) c fullShare).1 $$ Hs
  ihave ⟨H2, H3⟩ := (sum_halves (via s) c fullShare.right).1 $$ H2
  iclose

/-- A window that arrived with a sum, lent to none but the copy to the result array. -/
theorem lend_none {H : sProp 𝕄} (t : T) (c : Dev nD) (ht : ¬ t.val < 10) (ho : qo t = fullShare) : iprop(dstO m t c ∗ H) ⊢ iprop(sumO m t c (qo t) ∗ H) := by
  rw [ho, dstO, arr_ge m t c ht]; exact Entails.rfl
theorem dst_sum {H : sProp 𝕄} (t : T) (c : Dev nD) (ht : ¬ t.val < 10) : iprop(dstO m t c ∗ H) ⊢ iprop(sumO m t c fullShare ∗ H) := by
  rw [dstO, arr_ge m t c ht]; exact Entails.rfl

end Cert.KernelIdeal.Run

end
-- ==== Proof.Ideal.Windows.lean ====
/-
# Buffers window by window

A buffer of rows is held window by window over any family of windows that are pairwise apart and cover its rows; the landing buffers, the
device's own chunks, the staging buffer and the result array are such families.
-/
module

public import proofs.«01_k».proof.Proof.Ideal.Steps

@[expose] public section

set_option maxRecDepth 100000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- A separating conjunction weakens conjunct by conjunct. -/
theorem sep_each {I : Type} {S : Finset I} {Φ Ψ : I → sProp 𝕄} (h : ∀ i ∈ S, Φ i ⊢ Ψ i) : bigSep S Φ ⊢ bigSep S Ψ := bigSep_mono h

/-! ## Windows of rows -/

section Generic

variable {sp : Space} {h : ℕ} {e : EltTy} (mm : Memref sig .tc sp ⟨2, ![h, 1024]⟩ e) {I : Type} [DecidableEq I] (S : Finset I) (o n : I → ℕ)

/-- The elements of rows `l … l + k` of a buffer. -/
def rset (l k : ℕ) : Finset mm.view.ty.Idx := mm.view.setOn (Finset.univ.filter fun x : (⟨2, ![h, 1024]⟩ : Shape).Idx => l ≤ (x 0).val ∧ (x 0).val < l + k)

theorem mem_rset {l k : ℕ} (x : (⟨2, ![h, 1024]⟩ : Shape).Idx) : mm.view.emb x ∈ rset mm l k ↔ l ≤ (x 0).val ∧ (x 0).val < l + k := by
  unfold rset
  rw [View.mem_setOn, Finset.mem_filter]
  exact ⟨fun H => H.2, fun H => ⟨Finset.mem_univ _, H⟩⟩

theorem rset_sub {l k : ℕ} : rset mm l k ⊆ mm.view.set := Finset.map_subset_map.mpr (Finset.subset_univ _)

/-- They are those of the window. -/
theorem rset_eq {l k : ℕ} (hl : l + k ≤ h) : rset mm l k = (win mm l k hl).view.set := by
  rw [show ((win mm l k hl).view.set : Finset mm.view.ty.Idx) = mm.view.setOn (Rect.unit (s := ⟨2, ![h, 1024]⟩) ![l, 0] ![k, 1024] (inb_rows hl)).set from View.set_slice _ _]
  unfold rset
  congr 1
  ext x
  rw [Finset.mem_filter, Rect.mem_set_unit]
  refine ⟨fun H => Fin.forall_fin_two.mpr ⟨H.2, Nat.zero_le _, ?_⟩, fun H => ⟨Finset.mem_univ _, H 0⟩⟩
  show (x 1).val < 0 + 1024
  have := (x 1).isLt
  rw [Nat.zero_add]; exact this

variable (hd : ∀ i ∈ S, ∀ j ∈ S, i ≠ j → o i + n i ≤ o j ∨ o j + n j ≤ o i)
  (hc : ∀ r < h, ∃ i ∈ S, o i ≤ r ∧ r < o i + n i)

include hd in
theorem win_disj : ∀ i ∈ S, ∀ j ∈ S, i ≠ j → Disjoint (rset mm (o i) (n i)) (rset mm (o j) (n j)) := by
  intro i hi j hj hij
  rw [Finset.disjoint_left]
  intro x hx hx'
  obtain ⟨y, -, rfl⟩ := Finset.mem_map.mp (rset_sub mm hx)
  have h1 := (mem_rset mm y).mp hx
  have h2 := (mem_rset mm y).mp hx'
  have := hd i hi j hj hij
  omega

include hc in
theorem win_cover : S.biUnion (fun i => rset mm (o i) (n i)) = mm.view.set := by
  ext x
  rw [Finset.mem_biUnion]
  constructor
  · rintro ⟨i, -, hx⟩
    exact rset_sub mm hx
  · intro hx
    obtain ⟨y, -, rfl⟩ := Finset.mem_map.mp hx
    obtain ⟨i, hi, h1⟩ := hc (y 0).val (y 0).isLt
    exact ⟨i, hi, (mem_rset mm y).mpr h1⟩

include hd hc in
/-- A buffer held at one contents is held so window by window; -/
theorem wins_split (c : Dev nD) (q : PosShare TreeShare) (f : Buf (Elt F) (mm.view.loc (c : Thread nD τ))) :
    (mm.view.loc (c : Thread nD τ) ↦[mm.view.set]{q} f : sProp 𝕄) = bigSep S fun i => mm.view.loc (c : Thread nD τ) ↦[rset mm (o i) (n i)]{q} f := by
  rw [← win_cover mm S o n hc]
  exact pointsTo_biUnion S _ (win_disj mm S o n hd)

/-- Rows held at some contents. -/
def wany (c : Dev nD) (l k : ℕ) : sProp 𝕄 :=
  iprop(∃ f : Buf (Elt F) (mm.view.loc (c : Thread nD τ)), mm.view.loc (c : Thread nD τ) ↦[rset mm l k]{fullShare} f)

/-- A buffer held at some contents. -/
def many (c : Dev nD) : sProp 𝕄 := iprop(∃ f : Buf (Elt F) (mm.view.loc (c : Thread nD τ)), mm.view.loc (c : Thread nD τ) ↦[mm.view.set]{fullShare} f)

theorem wany_eq (c : Dev nD) {l k : ℕ} (hl : l + k ≤ h) :
    (wany mm c l k : sProp 𝕄) = iprop(∃ f : Buf (Elt F) ((win mm l k hl).view.loc (c : Thread nD τ)), (win mm l k hl).view.loc (c : Thread nD τ) ↦[(win mm l k hl).view.set]{fullShare} f) := by
  unfold wany; rw [rset_eq mm hl]; rfl

include hd hc in
/-- held at some contents, so too; -/
theorem wins_split_any (c : Dev nD) : (many mm c : sProp 𝕄) ⊢ bigSep S fun i => wany mm c (o i) (n i) := by
  unfold many
  iintro ⟨%f, H⟩
  ihave H := (Entails.of_eq (wins_split mm S o n hd hc c fullShare f)) $$ H
  have hm : (bigSep S fun i => (mm.view.loc (c : Thread nD τ) ↦[rset mm (o i) (n i)]{fullShare} f : sProp 𝕄)) ⊢ bigSep S fun i => wany mm c (o i) (n i) :=
    sep_each fun i _ => by
      unfold wany
      iintro H
      iexists f
      iexact H
  iapply hm
  iexact H

include hd hc in
/-- and back. -/
theorem wins_join_any (c : Dev nD) (f₀ : Buf (Elt F) (mm.view.loc (c : Thread nD τ))) :
    (bigSep S fun i => wany mm c (o i) (n i)) ⊢ (many mm c : sProp 𝕄) := by
  have : Nonempty (Buf (Elt F) (mm.view.loc (c : Thread nD τ))) := ⟨f₀⟩
  refine (Idealize.SL.BI.bigSep_exists_pi S (fun i (f : Buf (Elt F) (mm.view.loc (c : Thread nD τ))) => (mm.view.loc (c : Thread nD τ) ↦[rset mm (o i) (n i)]{fullShare} f : sProp 𝕄))).trans ?_
  unfold many
  iintro ⟨%fs, H⟩
  ihave ⟨%g, -, H⟩ := (pointsTo_biUnion_join S (fun i => rset mm (o i) (n i)) fs f₀ (win_disj mm S o n hd)) $$ H
  rw [win_cover mm S o n hc]
  iexists g
  iexact H

include hd hc in
/-- Windows held at contents of their own join to the buffer held at contents that read as each. -/
theorem wins_join (ho : ∀ i, o i + n i ≤ h) (c : Dev nD) (f₀ : Buf (Elt F) (mm.view.loc (c : Thread nD τ))) (X : ∀ i, (⟨2, ![n i, 1024]⟩ : Shape).Idx → Elt F e) :
    (bigSep S fun i => owns (c : Thread nD τ) (win mm (o i) (n i) (ho i)) fullShare (X i))
      ⊢ (iprop(∃ f : Buf (Elt F) (mm.view.loc (c : Thread nD τ)), ⌜∀ i ∈ S, (win mm (o i) (n i) (ho i)).view.read (Elt F) f = X i⌝
          ∗ (mm.view.loc (c : Thread nD τ) ↦[mm.view.set]{fullShare} f)) : sProp 𝕄) := by
  have : Nonempty (Buf (Elt F) (mm.view.loc (c : Thread nD τ))) := ⟨f₀⟩
  have hm : (bigSep S fun i => owns (c : Thread nD τ) (win mm (o i) (n i) (ho i)) fullShare (X i))
      ⊢ bigSep S fun i => (iprop(∃ f : Buf (Elt F) (mm.view.loc (c : Thread nD τ)),
          ⌜(win mm (o i) (n i) (ho i)).view.read (Elt F) f = X i⌝ ∗ (mm.view.loc (c : Thread nD τ) ↦[rset mm (o i) (n i)]{fullShare} f)) : sProp 𝕄) :=
    sep_each fun i _ => by rw [rset_eq mm (ho i)]; exact Entails.rfl
  refine hm.trans ((Idealize.SL.BI.bigSep_exists_pi S (fun i (f : Buf (Elt F) (mm.view.loc (c : Thread nD τ))) =>
    (iprop(⌜(win mm (o i) (n i) (ho i)).view.read (Elt F) f = X i⌝ ∗ (mm.view.loc (c : Thread nD τ) ↦[rset mm (o i) (n i)]{fullShare} f)) : sProp 𝕄))).trans ?_)
  iintro ⟨%fs, H⟩
  ihave ⟨%hX, H⟩ := (bigSep_pure_sep S (fun i => (win mm (o i) (n i) (ho i)).view.read (Elt F) (fs i) = X i)
    (fun i => (mm.view.loc (c : Thread nD τ) ↦[rset mm (o i) (n i)]{fullShare} fs i : sProp 𝕄))) $$ H
  ihave ⟨%g, %hg, H⟩ := (pointsTo_biUnion_join S (fun i => rset mm (o i) (n i)) fs f₀ (win_disj mm S o n hd)) $$ H
  rw [win_cover mm S o n hc]
  iexists g
  isplitr
  · ipureintro
    intro i hi
    rw [← hX i hi]
    exact View.read_congr fun x hx => hg i hi x (by rw [rset_eq mm (ho i)]; exact hx)
  · iexact H

end Generic

/-! ## The families of windows -/

/-- The copies that land in a buffer; for the device's own chunks, those read from it. -/
def fam : B → Finset T
  | .mine => Finset.univ.filter fun t => t.val < 10
  | b => Finset.univ.filter fun t => landB (ax t) = b

theorem fam_disj : ∀ b, ∀ i ∈ fam b, ∀ j ∈ fam b, i ≠ j → dl i + rows i ≤ dl j ∨ dl j + rows j ≤ dl i := by
  intro b; cases b <;> decide +kernel
theorem fam_cover (b : B) : ∀ r < bh b, ∃ i ∈ fam b, dl i ≤ r ∧ r < dl i + rows i := by
  have h : ∀ k < bh b / 128, ∃ i ∈ fam b, dl i ≤ 128 * k ∧ 128 * k + 128 ≤ dl i + rows i := by cases b <;> decide +kernel
  have h8 : bh b = 128 * (bh b / 128) := by cases b <;> decide
  intro r hr
  obtain ⟨i, hi, h1, h2⟩ := h (r / 128) (by omega)
  exact ⟨i, hi, by omega, by omega⟩

theorem og_disj (c : Dev nD) : ∀ i ∈ (Finset.univ : Finset T), ∀ j ∈ (Finset.univ : Finset T), i ≠ j → og i c + rows i ≤ og j c ∨ og j c + rows j ≤ og i c := by
  revert c; decide +kernel
theorem og_cover (c : Dev nD) : ∀ r < 16384, ∃ i ∈ (Finset.univ : Finset T), og i c ≤ r ∧ r < og i c + rows i := by
  have h : ∀ c : Dev nD, ∀ k < 128, ∃ i ∈ (Finset.univ : Finset T), og i c ≤ 128 * k ∧ 128 * k + 128 ≤ og i c + rows i := by decide +kernel
  intro r hr
  obtain ⟨i, hi, h1, h2⟩ := h c (r / 128) (by omega)
  exact ⟨i, hi, by omega, by omega⟩

theorem mem_fam {b : B} {t : T} (hb : b ≠ .mine) (h : t ∈ fam b) : landB (ax t) = b := by
  cases b
  · exact absurd rfl hb
  all_goals exact (Finset.mem_filter.mp h).2

theorem land_eq (c : Dev nD) (t : T) {b : B} (h : landB (ax t) = b) : (wany (bufM b) c (dl t) (rows t) : sProp 𝕄) = land c t := by
  subst h; exact wany_eq _ c (dl_le t)

/-- A landing buffer is its windows; -/
theorem buf_split {b : B} (hb : b ≠ .mine) (c : Dev nD) : (bufAny b c : sProp 𝕄) ⊢ bigSep (fam b) (land c) :=
  (wins_split_any (bufM b) (fam b) dl rows (fam_disj b) (fam_cover b) c).trans (sep_each fun t ht => Entails.of_eq (land_eq c t (mem_fam hb ht)))
theorem buf_join {b : B} (hb : b ≠ .mine) (c : Dev nD) (f₀ : Buf (Elt F) ((bufM b).view.loc (c : Thread nD τ))) : bigSep (fam b) (land c) ⊢ (bufAny b c : sProp 𝕄) :=
  (sep_each fun t ht => Entails.of_eq (land_eq c t (mem_fam hb ht)).symm).trans (wins_join_any (bufM b) (fam b) dl rows (fam_disj b) (fam_cover b) c f₀)

/-- The window chunk `t` of the device's own is kept in. -/
def own (c : Dev nD) (t : T) : sProp 𝕄 :=
  iprop(∃ f : Buf (Elt F) ((srcM t).view.loc (c : Thread nD τ)), (srcM t).view.loc (c : Thread nD τ) ↦[(srcM t).view.set]{fullShare} f)

theorem via_lt' : ∀ t : T, t.val < 10 → dl (via t) = dl t := by decide
theorem own_eq (c : Dev nD) (t : T) (ht : t ∈ fam .mine) : (wany (bufM .mine) c (dl t) (rows t) : sProp 𝕄) = own c t := by
  have ht := (Finset.mem_filter.mp ht).2
  rw [← via_lt' t ht]
  unfold own srcM
  have h : ∀ b (hl : dl (via t) + rows t ≤ bh b), B.mine = b → (wany (bufM .mine) c (dl (via t)) (rows t) : sProp 𝕄)
      = iprop(∃ f : Buf (Elt F) ((win (bufM b) (dl (via t)) (rows t) hl).view.loc (c : Thread nD τ)),
          (win (bufM b) (dl (via t)) (rows t) hl).view.loc (c : Thread nD τ) ↦[(win (bufM b) (dl (via t)) (rows t) hl).view.set]{fullShare} f) := by
    intro b hl hb; subst hb; exact wany_eq _ c hl
  exact h _ _ (if_pos ht).symm

/-- The buffer of the device's own chunks is its windows. -/
theorem mine_split (c : Dev nD) : (bufAny .mine c : sProp 𝕄) ⊢ bigSep (fam .mine) (own c) :=
  (wins_split_any (bufM .mine) (fam .mine) dl rows (fam_disj _) (fam_cover _) c).trans (sep_each fun t ht => Entails.of_eq (own_eq c t ht))
theorem mine_join (c : Dev nD) (f₀ : Buf (Elt F) ((bufM .mine).view.loc (c : Thread nD τ))) : bigSep (fam .mine) (own c) ⊢ (bufAny .mine c : sProp 𝕄) :=
  (sep_each fun t ht => Entails.of_eq (own_eq c t ht).symm).trans (wins_join_any (bufM .mine) (fam .mine) dl rows (fam_disj _) (fam_cover _) c f₀)

end Cert.KernelIdeal.Run

end
-- ==== Proof.Ideal.Start.lean ====
/-
# The first effects: the first chunk's load, the barrier

A device starts the load of its first chunk, hands each neighbour its landing buffer with a unit at the neighbour's barrier cell, and waits for the three units
its own cell is owed, which bring the neighbours' landing buffers.
-/
module

public import proofs.«01_k».proof.Proof.Ideal.Windows

@[expose] public section

set_option maxRecDepth 100000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- The copies in the order they are sent, -/
abbrev allT : List T := [0, 1, 2, 3, 4, 5, 6, 7, 8, 9, 10, 11, 12, 13, 14, 15, 16, 17, 18, 19, 20, 21, 22, 23, 24, 25, 26, 27]
/-- and in the order they are waited for. -/
abbrev recvT : List T := [0, 1, 2, 3, 4, 5, 6, 17, 7, 20, 8, 22, 9, 25, 23, 26, 16, 19, 10, 11, 12, 13, 14, 15, 18, 21, 24, 27]

theorem allT_eq : List.finRange 28 = allT := by decide
theorem bs_all (Φ : T → sProp 𝕄) : bs allT Φ = bigSep Finset.univ Φ :=
  (bigSep_univ_eq_bigSepL allT (by decide) (by decide) Φ).symm
theorem bs_recv (Φ : T → sProp 𝕄) : bs recvT Φ = bigSep Finset.univ Φ :=
  (bigSep_univ_eq_bigSepL recvT (by decide) (by decide) Φ).symm

theorem fam_union : (Finset.univ : Finset T) = fam .rx ∪ (fam .ry ∪ fam .rz) := by decide
theorem fam_apart : Disjoint (fam .ry) (fam .rz) := by decide
theorem fam_apart' : Disjoint (fam .rx) (fam .ry ∪ fam .rz) := by decide
theorem fam_ax : ∀ d : Ax, ∀ t ∈ fam (landB d), ax t = d := by intro d; cases d <;> decide

/-- A family over the copies, axis by axis. -/
theorem sep_axes (Φ : T → sProp 𝕄) : bigSep Finset.univ Φ = iprop(bigSep (fam .rx) Φ ∗ bigSep (fam .ry) Φ ∗ bigSep (fam .rz) Φ) := by
  rw [fam_union, bigSep_union fam_apart', bigSep_union fam_apart]; rfl

theorem land_nb (d : Ax) (c : Dev nD) : (bigSep (fam (landB d)) (land (nb d c)) : sProp 𝕄) ⊢ bigSep (fam (landB d)) fun t => land (nb (ax t) c) t :=
  sep_each fun t ht => by rw [fam_ax d t ht]

/-- The neighbours' landing buffers are the windows the copies go to. -/
theorem pend_all (c : Dev nD) : (iprop((bufAny .rx (px c) ∗ bufAny .ry (py c) ∗ bufAny .rz (pz c)) ∗ bs allT (pend0 c)) : sProp 𝕄) ⊢ bs allT (pend c) := by
  rw [bs_all, bs_all]
  have h : (bigSep Finset.univ (pend c) : sProp 𝕄) = iprop(bigSep Finset.univ (pend0 c) ∗ bigSep Finset.univ fun t => land (nb (ax t) c) t) :=
    bigSep_sep' Finset.univ (pend0 c) (fun t => land (nb (ax t) c) t)
  rw [h, sep_axes fun t => land (nb (ax t) c) t]
  iintro ⟨⟨Hx, Hy, Hz⟩, Hp⟩
  ihave Hx := (buf_split (b := .rx) (by decide) (px c)).trans (land_nb .x c) $$ Hx
  ihave Hy := (buf_split (b := .ry) (by decide) (py c)).trans (land_nb .y c) $$ Hy
  ihave Hz := (buf_split (b := .rz) (by decide) (pz c)).trans (land_nb .z c) $$ Hz
  isplitl [Hp]; · iexact Hp
  isplitl [Hx]; · iexact Hx
  isplitl [Hy]; · iexact Hy
  iexact Hz

variable (m : (ℓ : Loc nD τ sig) → Buf (Elt F) ℓ)

/-- The state before the barrier. -/
def Pre (c : Dev nD) (H : sProp 𝕄) (fr : List T) (sl : List (Fin 2)) (fl : List T) : sProp 𝕄 :=
  iprop(∃ K W, recs m K ∗ owes (c : Thread nD τ) (O₀ c) W ∗ H ∗ (dutyTok ER (barCell (px c)) 0 .x ∗ dutyTok ER (barCell (py c)) 0 .y ∗ dutyTok ER (barCell (pz c)) 0 .z)
    ∗ (bufAny .rx c ∗ bufAny .ry c ∗ bufAny .rz c) ∗ cred (tallyAt (barCell c) () 3) ∗ atPos ER (barCell c) 0 ∅ 0
    ∗ bs fr (lfree m c) ∗ bs sl (slot c) ∗ bs fl (lfly m c) ∗ bs allT (pend0 c) ∗ bs recvT (due c) ∗ bs recvT (ofree c))

variable {m} {c : Dev nD} {α : Type} {fr : List T} {sl : List (Fin 2)} {fl : List T}

/-- The first load. -/
theorem step_load0 {Q : α → sProp 𝕄} {H : sProp 𝕄} (t : T) {off : Fin 2 → ℕ} (ho : off = ![og t c, 0])
    {inb : ∀ a, off a + (![rows t, 1024] : Fin 2 → ℕ) a ≤ S16384x1024.size a} {hu : ∀ a, (Rect.unit (s := S16384x1024) off ![rows t, 1024] inb).stride a = 1}
    {hsrc : ((Memref.whole main_arg0).slice (Rect.unit (s := S16384x1024) off ![rows t, 1024] inb) hu).view.WordExact} {hdst : (stgM t).view.WordExact} {hsem}
    {k : PUnit → Prog (TpuEff nD τ sig (Elt F) Λ₀ .tc) α}
    (h : Pre m c H fr sl [t] ⊢ WP c (k ⟨⟩) Q) :
    Pre m c H (t :: fr) (par t :: sl) []
      ⊢ WP c (.op (.enqueueDma ((Memref.whole main_arg0).slice (Rect.unit (s := S16384x1024) off ![rows t, 1024] inb) hu) (.here (stgM t)) (.dma (lS (par t))) hsrc hdst hsem) k) Q := by
  subst ho
  unfold Pre at h ⊢
  rw [show (bs [t] (lfly m c) : sProp 𝕄) = iprop(lfly m c t ∗ bs [] (lfly m c)) from bs_cons _ _ _, lfly] at h
  rw [bs_cons, bs_cons, lfree, slot]
  iintro ⟨%K, %W, #HR, HO, HH, ⟨Hd1, Hd2, Hd3⟩, ⟨Hb1, Hb2, Hb3⟩, Hc, Hat, ⟨⟨⟨%q, Hs⟩, Hm⟩, Hfr⟩, ⟨⟨Hv, %fd, Hd⟩, Hsl⟩, Hfl, Hp, Hdu, Hof⟩
  iapply (Transfers.wp_dmaLocal EC 𝒱₀ (c : Thread nD τ) none (src := inM t c) () ((stgM t).view.dmaCredit) rfl (stg_credit_pos t) (stg_sub t)) $$ [Hs Hd Hv]
  · isplitl [Hs]; · iexact Hs
    isplitl [Hd]; · iexact Hd
    iexact Hv
  iintro Hf
  ihave Hf := (show _ ⊢ lfly0 m c t from Transfers.Flight_mono EC (c : Thread nD τ) (load_done t c fd q)) $$ Hf
  iapply h
  iexists K
  iexists W
  iclose

theorem bar_mem (n : Dev nD) (d : Ax) : d ∈ (Rd m).duties ((n : Thread nD τ), .reg barS) 0 :=
  (congrArg (d ∈ ·) (duties_bar m n)).mpr (Finset.mem_univ d)
theorem pay_bar (n : Dev nD) (d : Ax) {c : Dev nD} (h : nb d n = c) : (bufAny (landB d) c : sProp 𝕄) ⊢ (Rd m).payload ((n : Thread nD τ), .reg barS) 0 d := by
  subst h
  exact Entails.of_eq (payload_at m n none d).symm
theorem bar_got (c : Dev nD) : (bigSep ((Rd m).duties ((c : Thread nD τ), .reg barS) 0 \ ∅) fun d => (Rd m).payload ((c : Thread nD τ), .reg barS) 0 d : sProp 𝕄)
    ⊢ iprop(bufAny .rx (px c) ∗ bufAny .ry (py c) ∗ bufAny .rz (pz c)) := Entails.of_eq (rest_bar m c)

/-- A unit to each neighbour's barrier cell, and the wait for three. -/
theorem step_barrier {Q : α → sProp 𝕄} {H : sProp 𝕄} {d1 d2 d3 : Dev nD} (h1 : d1 = px c) (h2 : d2 = py c) (h3 : d3 = pz c)
    {k : PUnit → Prog (TpuEff nD τ sig (Elt F) Λ₀ .tc) α}
    (h : St m c iprop(semVal (barCell c) 0 ∗ H) fr sl fl [] allT [] recvT [] recvT [] [] [] ⊢ WP c (k ⟨⟩) Q) :
    Pre m c H fr sl fl
      ⊢ WP c (.op (.semSignal (Dev.tc d1 : Thread nD τ) barS (1#32).toInt) fun _ => .op (.semSignal (Dev.tc d2 : Thread nD τ) barS (1#32).toInt) fun _ =>
          .op (.semSignal (Dev.tc d3 : Thread nD τ) barS (1#32).toInt) fun _ => .op (.semWait barS (3#32).toInt) k) Q := by
  subst h1 h2 h3
  unfold St at h
  unfold Pre
  iintro ⟨%K, %W, #HR, HO, HH, ⟨Hd1, Hd2, Hd3⟩, ⟨Hb1, Hb2, Hb3⟩, Hc, Hat, Hfr, Hsl, Hfl, Hp, Hdu, Hof⟩
  unfold O₀
  iapply (Rounds.wp_signal 𝒱₀ ER (Rd m) (c : Thread nD τ) none (dst := (px c : Thread nD τ)) (κ := K (px c, none))
      (d := Ax.x) (bar_mem (px c) .x) ((amount_bar m (px c) .x).trans (by decide)) ()
      (Ol c (List.finRange 28) + tallyAt (barCell (pz c)) () 1 + tallyAt (barCell (py c)) () 1) rfl) $$ [HO Hd1 Hb1]
  · isplitr; · iapply (recs_inv m K (px c, none)); iexact HR
    isplitl [HO]; · iexact HO
    isplitl [Hd1]; · iexact Hd1
    isplitl [Hb1]; · iapply (pay_bar (m := m) (px c) .x (px_px c)); iexact Hb1
    iapply (recs_reached m K (px c, none)); iexact HR
  iintro HO
  iapply (Rounds.wp_signal 𝒱₀ ER (Rd m) (c : Thread nD τ) none (dst := (py c : Thread nD τ)) (κ := K (py c, none))
      (d := Ax.y) (bar_mem (py c) .y) ((amount_bar m (py c) .y).trans (by decide)) ()
      (Ol c (List.finRange 28) + tallyAt (barCell (pz c)) () 1) rfl) $$ [HO Hd2 Hb2]
  · isplitr; · iapply (recs_inv m K (py c, none)); iexact HR
    isplitl [HO]; · iexact HO
    isplitl [Hd2]; · iexact Hd2
    isplitl [Hb2]; · iapply (pay_bar (m := m) (py c) .y (py_py c)); iexact Hb2
    iapply (recs_reached m K (py c, none)); iexact HR
  iintro HO
  iapply (Rounds.wp_signal 𝒱₀ ER (Rd m) (c : Thread nD τ) none (dst := (pz c : Thread nD τ)) (κ := K (pz c, none))
      (d := Ax.z) (bar_mem (pz c) .z) ((amount_bar m (pz c) .z).trans (by decide)) ()
      (Ol c (List.finRange 28)) rfl) $$ [HO Hd3 Hb3]
  · isplitr; · iapply (recs_inv m K (pz c, none)); iexact HR
    isplitl [HO]; · iexact HO
    isplitl [Hd3]; · iexact Hd3
    isplitl [Hb3]; · iapply (pay_bar (m := m) (pz c) .z (pz_pz c)); iexact Hb3
    iapply (recs_reached m K (pz c, none)); iexact HR
  iintro HO
  rw [allT_eq]
  iapply (Rounds.wp_wait_rest_token 𝒱₀ ER (Rd m) (c : Thread nD τ) none (κ := K (c, none))
      (wpE_semWait_eq 𝒱₀ (c : Thread nD τ) none Set.univ) (Set.mem_univ _) () (O := Ol c allT) (W := W) (R := 0) (m := 0) (T := ∅)
      ((by decide : 0 + (3#32).toNat = 3).trans (expect_bar m c).symm)) $$ [Hc HO Hat]
  · isplitr; · iapply (recs_inv m K (c, none)); iexact HR
    isplitl [Hc]; · iexact Hc
    isplitl [HO]; · iexact HO
    isplitr
    · iapply (mayWait_of c (csem none) allT (by rw [lvS_bar]; decide)); iapply (recs_lev m K); iexact HR
    iexact Hat
  iintro ⟨HO, Hat, -, Hb⟩
  ihave Hb := (bar_got (m := m) c) $$ Hb
  imod (Rounds.cell_close ER (Rd m) (Set.mem_univ (K (c, none))) (fun h => h) (R := 0 + 1) (duties_later m (barCell c))) $$ [Hat] with Hz
  · isplitr; · iapply (recs_inv m K (c, none)); iexact HR
    iexact Hat
  ihave Hp := (pend_all c) $$ [Hb Hp]
  · isplitl [Hb]; · iexact Hb
    iexact Hp
  iapply h
  iexists K
  iexists (insert (csem none, ()) W)
  rw [show (bs [] (mineR m c) : sProp 𝕄) = iprop(emp) from rfl, show (bs [] (sentI c) : sProp 𝕄) = iprop(emp) from rfl, show (bs [] (rdone c) : sProp 𝕄) = iprop(emp) from rfl,
    show (bs [] (ofly m c) : sProp 𝕄) = iprop(emp) from rfl, show (bs [] (odone m c) : sProp 𝕄) = iprop(emp) from rfl, show (bs [] (sdone m c) : sProp 𝕄) = iprop(emp) from rfl]
  iclose

end Cert.KernelIdeal.Run

end
-- ==== Proof.Ideal.Body.lean ====
/-
# The body of a device

The body's effects in their order, one step lemma each.
-/
module

public import proofs.«01_k».proof.Proof.Ideal.Start

@[expose] public section

set_option maxRecDepth 100000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- The copies in the order their sends and their copies to the result array are waited for. -/
abbrev drainT : List T := [0, 1, 2, 3, 4, 5, 6, 7, 8, 9, 10, 13, 11, 14, 12, 15, 16, 17, 19, 20, 22, 23, 25, 26, 18, 24, 21, 27]

variable {m : (ℓ : Loc nD τ sig) → Buf (Elt F) ℓ} {c : Dev nD}

/-- What is sent and copied out, in the order it is waited for. -/
theorem step_order {α : Type} {Q : α → sProp 𝕄} {H : sProp 𝕄} {fr fl mr pe sd sd' du rd of oy oy' od sn : List T} {sl : List (Fin 2)}
    (h1 : sd.Perm sd') (n1 : sd.Nodup) (h2 : oy.Perm oy') (n2 : oy.Nodup) {p : Prog (TpuEff nD τ sig (Elt F) Λ₀ .tc) α}
    (h : St m c H fr sl fl mr pe sd' du rd of oy' od sn ⊢ WP c p Q) : St m c H fr sl fl mr pe sd du rd of oy od sn ⊢ WP c p Q := by
  unfold St at h ⊢
  rw [bs_perm h1 n1, bs_perm h2 n2]
  exact h

theorem body {Q : PUnit → sProp 𝕄} {H : sProp 𝕄}
    (h : St m c iprop(semVal (barCell c) 0 ∗ H) [] [1, 0] [] [9, 8, 7, 6, 5, 4, 3, 2, 1, 0] [] [] [] recvT.reverse [] [] drainT.reverse drainT.reverse ⊢ Q ⟨⟩) :
    Pre m c H [0, 1, 2, 3, 4, 5, 6, 7, 8, 9] [0, 1] [] ⊢ WP c (bodyAt0 t0_0) Q := by
  unfold bodyAt0
  rw [cc0_body_eq_skeleton]; unfold cc0_body_skel
  unfold k0_part40
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel
  simp only [semSignalWord, semWaitWord, Prog.lift, Prog.bind_op, Prog.bind_ret, Prog.pure_eq_ret, wp_deviceId]
  refine step_load0 0 (offW_eq 0 c) ?_
  refine step_barrier (dev1_eq c) (dev2_eq c) (dev3_eq c) ?_
  refine step_load 1 (offW_eq 1 c) rfl ?_
  refine step_mine 0 (by decide) rfl (fun v => shapeCast_self _ _) ?_
  refine step_fire 0 (Fin.ext (devW_eq 0 c)) ?_
  refine step_load 2 (offW_eq 2 c) rfl ?_
  refine step_mine 1 (by decide) rfl (fun v => shapeCast_self _ _) ?_
  refine step_fire 1 (Fin.ext (devW_eq 1 c)) ?_
  refine step_load 3 (offW_eq 3 c) rfl ?_
  refine step_mine 2 (by decide) rfl (fun v => shapeCast_self _ _) ?_
  refine step_fire 2 (Fin.ext (devW_eq 2 c)) ?_
  refine step_load 4 (offW_eq 4 c) rfl ?_
  refine step_mine 3 (by decide) rfl (fun v => shapeCast_self _ _) ?_
  refine step_fire 3 (Fin.ext (devW_eq 3 c)) ?_
  refine step_load 5 (offW_eq 5 c) rfl ?_
  refine step_mine 4 (by decide) rfl (fun v => shapeCast_self _ _) ?_
  refine step_fire 4 (Fin.ext (devW_eq 4 c)) ?_
  refine step_load 6 (offW_eq 6 c) rfl ?_
  refine step_mine 5 (by decide) rfl (fun v => shapeCast_self _ _) ?_
  refine step_fire 5 (Fin.ext (devW_eq 5 c)) ?_
  refine step_load 7 (offW_eq 7 c) rfl ?_
  refine step_mine 6 (by decide) rfl (fun v => shapeCast_self _ _) ?_
  refine step_fire 6 (Fin.ext (devW_eq 6 c)) ?_
  refine step_load 8 (offW_eq 8 c) rfl ?_
  refine step_mine 7 (by decide) rfl (fun v => shapeCast_self _ _) ?_
  refine step_fire 7 (Fin.ext (devW_eq 7 c)) ?_
  refine step_load 9 (offW_eq 9 c) rfl ?_
  refine step_mine 8 (by decide) rfl (fun v => shapeCast_self _ _) ?_
  refine step_fire 8 (Fin.ext (devW_eq 8 c)) ?_
  refine step_mine 9 (by decide) rfl (fun v => shapeCast_self _ _) ?_
  refine step_fire 9 (Fin.ext (devW_eq 9 c)) ?_
  refine step_recv 0 (by decide) ?_
  refine step_add 0 (by decide) (by decide) rfl rfl (fun a b => shapeCast_self _ _) ?_
  refine step_hand (lend_one 0 10 c (by decide) rfl rfl rfl) ?_
  refine step_fire 10 (Fin.ext (devW_eq 10 c)) ?_
  refine step_out 0 (offW_eq 0 c) ?_
  refine step_recv 1 (by decide) ?_
  refine step_add 1 (by decide) (by decide) rfl rfl (fun a b => shapeCast_self _ _) ?_
  refine step_hand (lend_one 1 11 c (by decide) rfl rfl rfl) ?_
  refine step_fire 11 (Fin.ext (devW_eq 11 c)) ?_
  refine step_out 1 (offW_eq 1 c) ?_
  refine step_recv 2 (by decide) ?_
  refine step_add 2 (by decide) (by decide) rfl rfl (fun a b => shapeCast_self _ _) ?_
  refine step_hand (lend_one 2 12 c (by decide) rfl rfl rfl) ?_
  refine step_fire 12 (Fin.ext (devW_eq 12 c)) ?_
  refine step_out 2 (offW_eq 2 c) ?_
  refine step_recv 3 (by decide) ?_
  refine step_add 3 (by decide) (by decide) rfl rfl (fun a b => shapeCast_self _ _) ?_
  refine step_hand (lend_one 3 13 c (by decide) rfl rfl rfl) ?_
  refine step_fire 13 (Fin.ext (devW_eq 13 c)) ?_
  refine step_out 3 (offW_eq 3 c) ?_
  refine step_recv 4 (by decide) ?_
  refine step_add 4 (by decide) (by decide) rfl rfl (fun a b => shapeCast_self _ _) ?_
  refine step_hand (lend_one 4 14 c (by decide) rfl rfl rfl) ?_
  refine step_fire 14 (Fin.ext (devW_eq 14 c)) ?_
  refine step_out 4 (offW_eq 4 c) ?_
  refine step_recv 5 (by decide) ?_
  refine step_add 5 (by decide) (by decide) rfl rfl (fun a b => shapeCast_self _ _) ?_
  refine step_hand (lend_one 5 15 c (by decide) rfl rfl rfl) ?_
  refine step_fire 15 (Fin.ext (devW_eq 15 c)) ?_
  refine step_out 5 (offW_eq 5 c) ?_
  refine step_recv 6 (by decide) ?_
  refine step_add 6 (by decide) (by decide) rfl rfl (fun a b => shapeCast_self _ _) ?_
  refine step_hand (lend_two 6 16 17 c (by decide) (by decide) rfl rfl rfl rfl rfl) ?_
  refine step_fire 16 (Fin.ext (devW_eq 16 c)) ?_
  refine step_fire 17 (Fin.ext (devW_eq 17 c)) ?_
  refine step_out 6 (offW_eq 6 c) ?_
  refine step_recv 17 (by decide) ?_
  refine step_hand (dst_sum 17 c (by decide)) ?_
  refine step_hand (lend_one 17 18 c (by decide) rfl rfl rfl) ?_
  refine step_fire 18 (Fin.ext (devW_eq 18 c)) ?_
  refine step_out 17 (offW_eq 17 c) ?_
  refine step_recv 7 (by decide) ?_
  refine step_add 7 (by decide) (by decide) rfl rfl (fun a b => shapeCast_self _ _) ?_
  refine step_hand (lend_two 7 19 20 c (by decide) (by decide) rfl rfl rfl rfl rfl) ?_
  refine step_fire 19 (Fin.ext (devW_eq 19 c)) ?_
  refine step_fire 20 (Fin.ext (devW_eq 20 c)) ?_
  refine step_out 7 (offW_eq 7 c) ?_
  refine step_recv 20 (by decide) ?_
  refine step_hand (dst_sum 20 c (by decide)) ?_
  refine step_hand (lend_one 20 21 c (by decide) rfl rfl rfl) ?_
  refine step_fire 21 (Fin.ext (devW_eq 21 c)) ?_
  refine step_out 20 (offW_eq 20 c) ?_
  refine step_recv 8 (by decide) ?_
  refine step_add 8 (by decide) (by decide) rfl rfl (fun a b => shapeCast_self _ _) ?_
  refine step_hand (lend_two 8 22 23 c (by decide) (by decide) rfl rfl rfl rfl rfl) ?_
  refine step_fire 22 (Fin.ext (devW_eq 22 c)) ?_
  refine step_fire 23 (Fin.ext (devW_eq 23 c)) ?_
  refine step_out 8 (offW_eq 8 c) ?_
  refine step_recv 22 (by decide) ?_
  refine step_hand (dst_sum 22 c (by decide)) ?_
  refine step_hand (lend_one 22 24 c (by decide) rfl rfl rfl) ?_
  refine step_fire 24 (Fin.ext (devW_eq 24 c)) ?_
  refine step_out 22 (offW_eq 22 c) ?_
  refine step_recv 9 (by decide) ?_
  refine step_add 9 (by decide) (by decide) rfl rfl (fun a b => shapeCast_self _ _) ?_
  refine step_hand (lend_two 9 25 26 c (by decide) (by decide) rfl rfl rfl rfl rfl) ?_
  refine step_fire 25 (Fin.ext (devW_eq 25 c)) ?_
  refine step_fire 26 (Fin.ext (devW_eq 26 c)) ?_
  refine step_out 9 (offW_eq 9 c) ?_
  refine step_recv 25 (by decide) ?_
  refine step_hand (dst_sum 25 c (by decide)) ?_
  refine step_hand (lend_one 25 27 c (by decide) rfl rfl rfl) ?_
  refine step_fire 27 (Fin.ext (devW_eq 27 c)) ?_
  refine step_out 25 (offW_eq 25 c) ?_
  refine step_recv 23 (by decide) ?_
  refine step_hand (lend_none 23 c (by decide) rfl) ?_
  refine step_out 23 (offW_eq 23 c) ?_
  refine step_recv 26 (by decide) ?_
  refine step_hand (lend_none 26 c (by decide) rfl) ?_
  refine step_out 26 (offW_eq 26 c) ?_
  refine step_recv 16 (by decide) ?_
  refine step_hand (lend_none 16 c (by decide) rfl) ?_
  refine step_out 16 (offW_eq 16 c) ?_
  refine step_recv 19 (by decide) ?_
  refine step_hand (lend_none 19 c (by decide) rfl) ?_
  refine step_out 19 (offW_eq 19 c) ?_
  refine step_recv 10 (by decide) ?_
  refine step_hand (lend_none 10 c (by decide) rfl) ?_
  refine step_out 10 (offW_eq 10 c) ?_
  refine step_recv 11 (by decide) ?_
  refine step_hand (lend_none 11 c (by decide) rfl) ?_
  refine step_out 11 (offW_eq 11 c) ?_
  refine step_recv 12 (by decide) ?_
  refine step_hand (lend_none 12 c (by decide) rfl) ?_
  refine step_out 12 (offW_eq 12 c) ?_
  refine step_recv 13 (by decide) ?_
  refine step_hand (lend_none 13 c (by decide) rfl) ?_
  refine step_out 13 (offW_eq 13 c) ?_
  refine step_recv 14 (by decide) ?_
  refine step_hand (lend_none 14 c (by decide) rfl) ?_
  refine step_out 14 (offW_eq 14 c) ?_
  refine step_recv 15 (by decide) ?_
  refine step_hand (lend_none 15 c (by decide) rfl) ?_
  refine step_out 15 (offW_eq 15 c) ?_
  refine step_recv 18 (by decide) ?_
  refine step_hand (lend_none 18 c (by decide) rfl) ?_
  refine step_out 18 (offW_eq 18 c) ?_
  refine step_recv 21 (by decide) ?_
  refine step_hand (lend_none 21 c (by decide) rfl) ?_
  refine step_out 21 (offW_eq 21 c) ?_
  refine step_recv 24 (by decide) ?_
  refine step_hand (lend_none 24 c (by decide) rfl) ?_
  refine step_out 24 (offW_eq 24 c) ?_
  refine step_recv 27 (by decide) ?_
  refine step_hand (lend_none 27 c (by decide) rfl) ?_
  refine step_out 27 (offW_eq 27 c) ?_
  refine step_order (sd' := drainT) (oy' := drainT) (by decide) (by decide) (by decide) (by decide) ?_
  refine step_sent 0 ?_
  refine step_flown 0 ?_
  refine step_sent 1 ?_
  refine step_flown 1 ?_
  refine step_sent 2 ?_
  refine step_flown 2 ?_
  refine step_sent 3 ?_
  refine step_flown 3 ?_
  refine step_sent 4 ?_
  refine step_flown 4 ?_
  refine step_sent 5 ?_
  refine step_flown 5 ?_
  refine step_sent 6 ?_
  refine step_flown 6 ?_
  refine step_sent 7 ?_
  refine step_flown 7 ?_
  refine step_sent 8 ?_
  refine step_flown 8 ?_
  refine step_sent 9 ?_
  refine step_flown 9 ?_
  refine step_sent 10 ?_
  refine step_sent 13 ?_
  refine step_flown 10 ?_
  refine step_flown 13 ?_
  refine step_sent 11 ?_
  refine step_sent 14 ?_
  refine step_flown 11 ?_
  refine step_flown 14 ?_
  refine step_sent 12 ?_
  refine step_sent 15 ?_
  refine step_flown 12 ?_
  refine step_flown 15 ?_
  refine step_sent 16 ?_
  refine step_sent 17 ?_
  refine step_flown 16 ?_
  refine step_flown 17 ?_
  refine step_sent 19 ?_
  refine step_sent 20 ?_
  refine step_flown 19 ?_
  refine step_flown 20 ?_
  refine step_sent 22 ?_
  refine step_sent 23 ?_
  refine step_flown 22 ?_
  refine step_flown 23 ?_
  refine step_sent 25 ?_
  refine step_sent 26 ?_
  refine step_flown 25 ?_
  refine step_flown 26 ?_
  refine step_sent 18 ?_
  refine step_sent 24 ?_
  refine step_flown 18 ?_
  refine step_flown 24 ?_
  refine step_sent 21 ?_
  refine step_sent 27 ?_
  refine step_flown 21 ?_
  refine step_flown 27 ?_
  exact h.trans (le_wp_ret _ _ _ _ _)

end Cert.KernelIdeal.Run

end
-- ==== Proof.Ideal.Exit.lean ====
/-
# The buffers before and after

What a device holds at launch is the state the body starts from, and the state it ends in is every buffer whole again, the result array holding each
sum in its rows, and every semaphore at zero.
-/
module

public import proofs.«01_k».proof.Proof.Ideal.Body

@[expose] public section

set_option maxRecDepth 100000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

theorem bs_set {I : Type} [DecidableEq I] (l : List I) (S : Finset I) (h : S = l.toFinset) (hn : l.Nodup) (Φ : I → sProp 𝕄) : bs l Φ = bigSep S Φ :=
  (bigSep_eq_bigSepL_of_eq l h hn Φ).symm

variable (m : (ℓ : Loc nD τ sig) → Buf (Elt F) ℓ) (c : Dev nD)

/-! ## The staging buffer -/

theorem stg_disj : ∀ s s' : Fin 2, s ≠ s' → Disjoint (stgSet s) (stgSet s') := by
  intro s s' h
  rw [Finset.disjoint_left]
  intro i hi hi'
  have h1 := Rect.mem_set_unit.mp hi (0 : Fin 3)
  have h2 := Rect.mem_set_unit.mp hi' (0 : Fin 3)
  have e1 : s.val ≤ (i 0).val ∧ (i 0).val < s.val + 1 := h1
  have e2 : s'.val ≤ (i 0).val ∧ (i 0).val < s'.val + 1 := h2
  exact h (Fin.ext (by omega))

theorem stg_cover : Finset.univ.biUnion stgSet = (Finset.univ : Finset S2x640x1024.Idx) := by
  ext i
  rw [Finset.mem_biUnion]
  refine ⟨fun _ => Finset.mem_univ _, fun _ => ?_⟩
  have h0 : (i 0).val < 2 := (i 0).isLt
  have h1 : (i 1).val < 640 := (i 1).isLt
  have h2 : (i 2).val < 1024 := (i 2).isLt
  refine ⟨⟨(i 0).val, h0⟩, Finset.mem_univ _, Rect.mem_set_unit.mpr (Fin.forall_fin_succ.mpr ⟨⟨le_rfl, Nat.lt_succ_self _⟩, Fin.forall_fin_two.mpr ⟨⟨Nat.zero_le _, ?_⟩, ⟨Nat.zero_le _, ?_⟩⟩⟩)⟩
  · show (i 1).val < 0 + 640; omega
  · show (i 2).val < 0 + 1024; omega

/-- A place of the staging buffer at some contents. -/
def place (s : Fin 2) : sProp 𝕄 := iprop(∃ f : Buf (Elt F) ((c : Thread nD τ).loc cc0_scratch4), (c : Thread nD τ).loc cc0_scratch4 ↦[stgSet s]{fullShare} f)
/-- A buffer at some contents. -/
def whole (b : Ref sig .tc) : sProp 𝕄 := iprop(∃ f : Buf (Elt F) ((c : Thread nD τ).loc b), (c : Thread nD τ).loc b ↦{fullShare} f)

theorem stg_split : (whole c cc0_scratch4 : sProp 𝕄) ⊢ bigSep Finset.univ (place c) := by
  unfold whole
  iintro ⟨%f, H⟩
  ihave H := (Entails.of_eq (Ring.pointsTo_blocks (ℓ := (c : Thread nD τ).loc cc0_scratch4) (q := fullShare) stgSet stg_disj stg_cover f)) $$ H
  have h : (bigSep Finset.univ fun s => ((c : Thread nD τ).loc cc0_scratch4 ↦[stgSet s]{fullShare} f : sProp 𝕄)) ⊢ bigSep Finset.univ (place c) :=
    sep_each fun s _ => by
      unfold place
      iintro H
      iexists f
      iexact H
  iapply h
  iexact H

include m in
theorem stg_join : bigSep Finset.univ (place c) ⊢ (whole c cc0_scratch4 : sProp 𝕄) :=
  Ring.pointsTo_blocks_join_exists (ℓ := (c : Thread nD τ).loc cc0_scratch4) (q := fullShare) stgSet stg_disj stg_cover (m ((c : Thread nD τ).loc cc0_scratch4))

/-! ## The result array and the operand -/

/-- A whole buffer's view covers it. -/
theorem whole_pt (b : Ref sig .tc) (q : PosShare TreeShare) (f : Buf (Elt F) ((c : Thread nD τ).loc b)) :
    ((Memref.whole b).view.loc (c : Thread nD τ) ↦[(Memref.whole b).view.set]{q} f : sProp 𝕄) = ((c : Thread nD τ).loc b ↦{q} f) := by
  have h : (Memref.whole b).view.set = (Finset.univ : Finset (Memref.whole b).view.ty.Idx) := View.set_whole b
  rw [h]

theorem whole_any (b : Ref sig .tc) :
    (iprop(∃ f : Buf (Elt F) ((c : Thread nD τ).loc b), (Memref.whole b).view.loc (c : Thread nD τ) ↦[(Memref.whole b).view.set]{fullShare} f) : sProp 𝕄) = whole c b := by
  unfold whole
  exact congrArg _ (funext fun f => whole_pt c b fullShare f)

/-- The rows that go with a copy at some contents. -/
def outAny (t : T) : sProp 𝕄 :=
  iprop(∃ f : Buf (Elt F) ((outM t c).view.loc (c : Thread nD τ)), (outM t c).view.loc (c : Thread nD τ) ↦[(outM t c).view.set]{fullShare} f)

theorem out_split : (whole c main_v1 : sProp 𝕄) ⊢ bigSep Finset.univ (outAny c) :=
  (Entails.of_eq (whole_any c main_v1).symm).trans <| (wins_split_any (Memref.whole main_v1) Finset.univ (fun t => og t c) rows (og_disj c) (og_cover c) c).trans
    (sep_each fun t _ => Entails.of_eq (wany_eq (Memref.whole main_v1) c (og_le t c)))

/-- What the result array holds at the end. -/
def outOk (f : Buf (Elt F) ((c : Thread nD τ).loc main_v1)) : Prop := ∀ t : T, (outM t c).view.read (Elt F) f = oval m t c

theorem out_join : (bigSep Finset.univ fun t => owns (c : Thread nD τ) (outM t c) fullShare (oval m t c) : sProp 𝕄)
    ⊢ iprop(∃ f : Buf (Elt F) ((c : Thread nD τ).loc main_v1), ⌜outOk m c f⌝ ∗ ((c : Thread nD τ).loc main_v1 ↦{fullShare} f)) := by
  refine (wins_join (Memref.whole main_v1) Finset.univ (fun t => og t c) rows (og_disj c) (og_cover c) (fun t => og_le t c) c
    (m ((c : Thread nD τ).loc main_v1)) (fun t => oval m t c)).trans ?_
  iintro ⟨%f, %hf, H⟩
  ihave H := (Entails.of_eq (whole_pt c main_v1 fullShare f)) $$ H
  iexists f
  isplitr
  · ipureintro
    exact fun t => hf t (Finset.mem_univ t)
  · iexact H

/-- A share of the rows of the operand that go with a copy. -/
def inSh (t : T) : sProp 𝕄 := iprop(∃ q, (inM t c).view.loc (c : Thread nD τ) ↦[(inM t c).view.set]{q} (m ((c : Thread nD τ).loc main_arg0)))
/-- The operand, at a half share. -/
def argL : sProp 𝕄 := (c : Thread nD τ).loc main_arg0 ↦{fullShare.left} (m ((c : Thread nD τ).loc main_arg0))

theorem in_split : ((c : Thread nD τ).loc main_arg0 ↦{fullShare} (m ((c : Thread nD τ).loc main_arg0)) : sProp 𝕄) ⊢ iprop(argL m c ∗ bigSep Finset.univ (inSh m c)) := by
  iintro H
  ihave ⟨Hl, Hr⟩ := (pointsTo_share (PosShare.mem_left_op_right fullShare)).1 $$ H
  isplitl [Hl]; · (unfold argL; iexact Hl)
  ihave Hr := (Entails.of_eq (whole_pt c main_arg0 fullShare.right _).symm) $$ Hr
  ihave Hr := (Entails.of_eq (wins_split (Memref.whole main_arg0) Finset.univ (fun t => og t c) rows (og_disj c) (og_cover c) c fullShare.right (m ((c : Thread nD τ).loc main_arg0)))) $$ Hr
  have h : (bigSep Finset.univ fun t => (((Memref.whole main_arg0 : Memref sig .tc .hbm S16384x1024 .f32).view.loc (c : Thread nD τ)) ↦[rset (Memref.whole main_arg0 : Memref sig .tc .hbm S16384x1024 .f32) (og t c) (rows t)]{fullShare.right}
      (m ((c : Thread nD τ).loc main_arg0)) : sProp 𝕄)) ⊢ bigSep Finset.univ (inSh m c) :=
    sep_each fun t _ => by
      unfold inSh
      rw [rset_eq (Memref.whole main_arg0 : Memref sig .tc .hbm S16384x1024 .f32) (og_le t c)]
      iintro H
      iexists fullShare.right
      iexact H
  iapply h
  iexact Hr

/-! ## At the end -/

/-- A landing window whole again: lent to none, -/
theorem back_none (t : T) (ho : qo t = fullShare) : sumO m t c (qo t) ⊢ (land c t : sProp 𝕄) := by
  rw [ho]
  unfold sumO owns land
  iintro ⟨%f, -, H⟩
  iexists f
  iexact H

theorem back_full (t : T) : sumO m t c fullShare ⊢ (land c t : sProp 𝕄) := by
  unfold sumO owns land
  iintro ⟨%f, -, H⟩
  iexists f
  iexact H

/-- to one further copy, -/
theorem back_one (t s : T) (hs : ¬ s.val < 10) (hv : via s = t) (hq : qs s = fullShare.left) (ho : qo t = fullShare.right) :
    iprop(srcO m s c ∗ sumO m t c (qo t)) ⊢ (land c t : sProp 𝕄) := by
  subst hv
  rw [← sumO_via m s c hs, hq, ho]
  exact (sum_halves (via s) c fullShare).2.trans (back_full m c _)

/-- to two. -/
theorem back_two (t s s' : T) (hs : ¬ s.val < 10) (hs' : ¬ s'.val < 10) (hv : via s = t) (hv' : via s' = t) (hq : qs s = fullShare.left)
    (hq' : qs s' = fullShare.right.left) (ho : qo t = fullShare.right.right) :
    iprop(srcO m s c ∗ srcO m s' c ∗ sumO m t c (qo t)) ⊢ (land c t : sProp 𝕄) := by
  subst hv
  rw [← sumO_via m s c hs, ← sumO_via m s' c hs', hv', hq, hq', ho]
  iintro ⟨H1, H2, H3⟩
  iapply (back_full m c _)
  iapply (sum_halves (via s) c fullShare).2
  isplitl [H1]; · iexact H1
  iapply (sum_halves (via s) c fullShare.right).2
  isplitl [H2]; · iexact H2
  iexact H3

/-- A window of the device's own chunks whole again. -/
theorem back_own (t : T) (ht : t.val < 10) : iprop(srcO m t c ∗ mineR m c t) ⊢ (own c t : sProp 𝕄) := by
  unfold srcO mineR own
  rw [qs_lt t ht]
  iintro H
  ihave H := (owns_halves (c : Thread nD τ) (srcM t) fullShare _).2 $$ H
  unfold owns
  icases H with ⟨%f, -, H⟩
  iexists f
  iexact H

/-- The copies past the device's own chunks. -/
abbrev lateT : List T := [10, 11, 12, 13, 14, 15, 16, 17, 18, 19, 20, 21, 22, 23, 24, 25, 26, 27]

/-- Every landing window whole again. -/
theorem lands_back : iprop(bs lateT (fun t => srcO m t c) ∗ bs allT (fun t => sumO m t c (qo t))) ⊢ (bs allT (land c) : sProp 𝕄) := by
  simp only [lateT, allT, bs_cons]
  iintro ⟨⟨S10, S11, S12, S13, S14, S15, S16, S17, S18, S19, S20, S21, S22, S23, S24, S25, S26, S27, -⟩, O0, O1, O2, O3, O4, O5, O6, O7, O8, O9, O10, O11, O12, O13, O14, O15, O16, O17, O18, O19, O20, O21, O22, O23, O24, O25, O26, O27, E⟩
  isplitl [S10 O0]
  · iapply (back_one m c 0 10 (by decide) (by decide) (by decide) (by decide))
    iclose
  isplitl [S11 O1]
  · iapply (back_one m c 1 11 (by decide) (by decide) (by decide) (by decide))
    iclose
  isplitl [S12 O2]
  · iapply (back_one m c 2 12 (by decide) (by decide) (by decide) (by decide))
    iclose
  isplitl [S13 O3]
  · iapply (back_one m c 3 13 (by decide) (by decide) (by decide) (by decide))
    iclose
  isplitl [S14 O4]
  · iapply (back_one m c 4 14 (by decide) (by decide) (by decide) (by decide))
    iclose
  isplitl [S15 O5]
  · iapply (back_one m c 5 15 (by decide) (by decide) (by decide) (by decide))
    iclose
  isplitl [S16 S17 O6]
  · iapply (back_two m c 6 16 17 (by decide) (by decide) (by decide) (by decide) (by decide) (by decide) (by decide))
    iclose
  isplitl [S19 S20 O7]
  · iapply (back_two m c 7 19 20 (by decide) (by decide) (by decide) (by decide) (by decide) (by decide) (by decide))
    iclose
  isplitl [S22 S23 O8]
  · iapply (back_two m c 8 22 23 (by decide) (by decide) (by decide) (by decide) (by decide) (by decide) (by decide))
    iclose
  isplitl [S25 S26 O9]
  · iapply (back_two m c 9 25 26 (by decide) (by decide) (by decide) (by decide) (by decide) (by decide) (by decide))
    iclose
  isplitl [O10]
  · iapply (back_none m c 10 (by decide))
    iclose
  isplitl [O11]
  · iapply (back_none m c 11 (by decide))
    iclose
  isplitl [O12]
  · iapply (back_none m c 12 (by decide))
    iclose
  isplitl [O13]
  · iapply (back_none m c 13 (by decide))
    iclose
  isplitl [O14]
  · iapply (back_none m c 14 (by decide))
    iclose
  isplitl [O15]
  · iapply (back_none m c 15 (by decide))
    iclose
  isplitl [O16]
  · iapply (back_none m c 16 (by decide))
    iclose
  isplitl [S18 O17]
  · iapply (back_one m c 17 18 (by decide) (by decide) (by decide) (by decide))
    iclose
  isplitl [O18]
  · iapply (back_none m c 18 (by decide))
    iclose
  isplitl [O19]
  · iapply (back_none m c 19 (by decide))
    iclose
  isplitl [S21 O20]
  · iapply (back_one m c 20 21 (by decide) (by decide) (by decide) (by decide))
    iclose
  isplitl [O21]
  · iapply (back_none m c 21 (by decide))
    iclose
  isplitl [S24 O22]
  · iapply (back_one m c 22 24 (by decide) (by decide) (by decide) (by decide))
    iclose
  isplitl [O23]
  · iapply (back_none m c 23 (by decide))
    iclose
  isplitl [O24]
  · iapply (back_none m c 24 (by decide))
    iclose
  isplitl [S27 O25]
  · iapply (back_one m c 25 27 (by decide) (by decide) (by decide) (by decide))
    iclose
  isplitl [O26]
  · iapply (back_none m c 26 (by decide))
    iclose
  isplitl [O27]
  · iapply (back_none m c 27 (by decide))
    iclose
  iexact E

/-! ## Families over lists -/

theorem bs_zip {I : Type} (l : List I) (Φ Ψ : I → sProp 𝕄) : iprop(bs l Φ ∗ bs l Ψ) ⊢ bs l fun i => iprop(Φ i ∗ Ψ i) := by
  induction l with
  | nil => iintro ⟨-, H⟩; iexact H
  | cons a l ih =>
    rw [bs_cons, bs_cons, bs_cons]
    iintro ⟨⟨Ha, Hl⟩, Hb, Hm⟩
    isplitl [Ha Hb]
    · iclose
    · iapply ih
      iclose
theorem bs_unzip {I : Type} (l : List I) (Φ Ψ : I → sProp 𝕄) : (bs l fun i => iprop(Φ i ∗ Ψ i)) ⊢ iprop(bs l Φ ∗ bs l Ψ) := by
  induction l with
  | nil => exact (@Laws.emp_sep _ _ _).2
  | cons a l ih =>
    rw [bs_cons, bs_cons, bs_cons]
    iintro ⟨⟨Ha, Hb⟩, Hl⟩
    ihave ⟨Hl, Hm⟩ := ih $$ Hl
    isplitl [Ha Hl]
    · iclose
    · iclose

theorem bs_append {I : Type} (l l' : List I) (Φ : I → sProp 𝕄) : bs (l ++ l') Φ ⊢ iprop(bs l Φ ∗ bs l' Φ) := by
  induction l with
  | nil => exact (@Laws.emp_sep _ _ _).2
  | cons a l ih =>
    rw [List.cons_append, bs_cons, bs_cons]
    iintro ⟨Ha, Hl⟩
    ihave ⟨Hl, Hm⟩ := ih $$ Hl
    isplitl [Ha Hl]
    · iclose
    · iexact Hm

theorem own_late (Φ : T → sProp 𝕄) : bs allT Φ ⊢ iprop(bs [0, 1, 2, 3, 4, 5, 6, 7, 8, 9] Φ ∗ bs lateT Φ) := bs_append [0, 1, 2, 3, 4, 5, 6, 7, 8, 9] lateT Φ

/-- Part of a family. -/
theorem some_of (S : Finset T) (Φ : T → sProp 𝕄) : bigSep Finset.univ Φ ⊢ bigSep S Φ := bigSep_subset (Finset.subset_univ S)

/-- A family over the copies, in any order they are listed. -/
theorem bs_order {l l' : List T} (h : l.Perm l') (hn : l.Nodup) {Φ : T → sProp 𝕄} : bs l Φ ⊢ bs l' Φ := Entails.of_eq (bs_perm h hn Φ)

/-! ## The state at launch and the state at the end -/

/-- The tokens of the units a device pays: to each neighbour's barrier cell, and its copies' two. -/
def payToks : sProp 𝕄 :=
  iprop((dutyTok ER (barCell (px c)) 0 .x ∗ dutyTok ER (barCell (py c)) 0 .y ∗ dutyTok ER (barCell (pz c)) 0 .z)
    ∗ bs allT (fun t => dutyTok ER (sndCell t c) 0 .x) ∗ bs allT (fun t => dutyTok ER (rcvCell t (nb (ax t) c)) 0 .x))
/-- Its places at its own cells. -/
def places : sProp 𝕄 := iprop(atPos ER (barCell c) 0 ∅ 0 ∗ bs allT (fun t => atPos ER (sndCell t c) 0 ∅ 0) ∗ bs allT (fun t => atPos ER (rcvCell t c) 0 ∅ 0))
/-- The credits of its own cells. -/
def creds : sProp 𝕄 := iprop(cred (tallyAt (barCell c) () 3) ∗ bs allT (fun t => cred (tallyAt (rcvCell t c) () (N t))))
/-- The semaphores of its local copies at zero, -/
def localSems : sProp 𝕄 := iprop(bs allT (fun t => semVal ((c : Thread nD τ), .dma (oS t)) 0) ∗ bs [0, 1] (fun s : Fin 2 => semVal ((c : Thread nD τ), .dma (lS s)) 0))
/-- and those of its copies to its neighbours. -/
def copySems : sProp 𝕄 := iprop(bs allT (fun t => semVal (sndCell t c) 0) ∗ bs allT (fun t => semVal (rcvCell t c) 0))
/-- Its scratch buffers. -/
def scratch : sProp 𝕄 := iprop(whole c cc0_scratch0 ∗ whole c cc0_scratch1 ∗ whole c cc0_scratch2 ∗ whole c cc0_scratch3 ∗ whole c cc0_scratch4)

theorem mine_eq : (bufAny .mine c : sProp 𝕄) = whole c cc0_scratch0 := whole_any c cc0_scratch0
theorem rx_eq : (bufAny .rx c : sProp 𝕄) = whole c cc0_scratch1 := whole_any c cc0_scratch1
theorem ry_eq : (bufAny .ry c : sProp 𝕄) = whole c cc0_scratch2 := whole_any c cc0_scratch2
theorem rz_eq : (bufAny .rz c : sProp 𝕄) = whole c cc0_scratch3 := whole_any c cc0_scratch3

theorem mine_list (Φ : T → sProp 𝕄) : bs [0, 1, 2, 3, 4, 5, 6, 7, 8, 9] Φ = bigSep (fam .mine) Φ := bs_set _ _ (by decide) (by decide) Φ
theorem two_list (Φ : Fin 2 → sProp 𝕄) : bs [0, 1] Φ = bigSep Finset.univ Φ := bs_set _ _ (by decide) (by decide) Φ

/-- What a device holds at launch is the state the body starts from. -/
theorem first {K : Dev nD × Cix → ℕ} (w : Waits sig Unit) :
    iprop(recs m K ∗ owes (c : Thread nD τ) (O₀ c) w ∗ payToks c ∗ places c ∗ creds c ∗ localSems c
      ∗ ((c : Thread nD τ).loc main_arg0 ↦{fullShare} (m ((c : Thread nD τ).loc main_arg0))) ∗ whole c main_v1 ∗ scratch c)
    ⊢ (Pre m c (argL m c) [0, 1, 2, 3, 4, 5, 6, 7, 8, 9] [0, 1] [] : sProp 𝕄) := by
  unfold Pre payToks places creds localSems scratch
  iintro ⟨HK, HO, ⟨HB, Hs, Hr⟩, ⟨HA, Has, Har⟩, ⟨HC, Hc⟩, ⟨Hos, Hls⟩, Hin, Hout, H0, H1, H2, H3, H4⟩
  ihave ⟨HL, Hin⟩ := (in_split m c) $$ Hin
  ihave Hin := (some_of (fam .mine) (inSh m c)) $$ Hin
  ihave Hin := (Entails.of_eq (mine_list (inSh m c)).symm) $$ Hin
  ihave H0 := (Entails.of_eq (mine_eq c).symm) $$ H0
  ihave H0 := (mine_split c) $$ H0
  ihave H0 := (Entails.of_eq (mine_list (own c)).symm) $$ H0
  ihave Hin := (bs_zip [0, 1, 2, 3, 4, 5, 6, 7, 8, 9] (inSh m c) (own c)) $$ [Hin H0]; · iclose
  ihave Hout := (out_split c) $$ Hout
  ihave Hout := (Entails.of_eq (bs_all (outAny c)).symm) $$ Hout
  ihave Hout := (bs_zip allT (fun t => semVal ((c : Thread nD τ), .dma (oS t)) 0) (outAny c)) $$ [Hos Hout]; · iclose
  ihave Hout := (bs_order (l' := recvT) (by decide) (by decide)) $$ Hout
  ihave H4 := (stg_split c) $$ H4
  ihave H4 := (Entails.of_eq (two_list (place c)).symm) $$ H4
  ihave H4 := (bs_zip [0, 1] (fun s : Fin 2 => semVal ((c : Thread nD τ), .dma (lS s)) 0) (place c)) $$ [Hls H4]; · iclose
  ihave Hr := (bs_zip allT (fun t => dutyTok ER (rcvCell t (nb (ax t) c)) 0 .x) (fun t => atPos ER (sndCell t c) 0 ∅ 0)) $$ [Hr Has]; · iclose
  ihave Hs := (bs_zip allT (fun t => dutyTok ER (sndCell t c) 0 .x) _) $$ [Hs Hr]; · iclose
  ihave Hc := (bs_zip allT (fun t => cred (tallyAt (rcvCell t c) () (N t))) (fun t => atPos ER (rcvCell t c) 0 ∅ 0)) $$ [Hc Har]; · iclose
  ihave Hc := (bs_order (l' := recvT) (by decide) (by decide)) $$ Hc
  ihave H1 := (Entails.of_eq (rx_eq c).symm) $$ H1
  ihave H2 := (Entails.of_eq (ry_eq c).symm) $$ H2
  ihave H3 := (Entails.of_eq (rz_eq c).symm) $$ H3
  iexists K
  iexists w
  isplitl [HK]; · iexact HK
  isplitl [HO]; · iexact HO
  isplitl [HL]; · iexact HL
  isplitl [HB]; · iexact HB
  isplitl [H1 H2 H3]; · iclose
  isplitl [HC]; · iexact HC
  isplitl [HA]; · iexact HA
  isplitl [Hin]; · iexact Hin
  isplitl [H4]; · iexact H4
  isplitl []; · (rw [show (bs [] (lfly m c) : sProp 𝕄) = iprop(emp) from rfl]; iempintro)
  isplitl [Hs]; · iexact Hs
  isplitl [Hc]; · iexact Hc
  iexact Hout

/-- The result array at the end. -/
def resOk : sProp 𝕄 := iprop(∃ f : Buf (Elt F) ((c : Thread nD τ).loc main_v1), ⌜outOk m c f⌝ ∗ ((c : Thread nD τ).loc main_v1 ↦{fullShare} f))

theorem slots_eq : (bs [0, 1] (slot c) : sProp 𝕄) = bs [0, 1] (fun s : Fin 2 => iprop(semVal ((c : Thread nD τ), .dma (lS s)) 0 ∗ place c s)) := rfl
theorem outs_eq : (bs allT (odone m c) : sProp 𝕄)
    = bs allT (fun t => iprop(semVal ((c : Thread nD τ), .dma (oS t)) 0 ∗ owns (c : Thread nD τ) (outM t c) fullShare (oval m t c) ∗ sumO m t c (qo t))) := rfl
theorem sents_eq : (bs allT (sdone m c) : sProp 𝕄) = bs allT (fun t => iprop(semVal (sndCell t c) 0 ∗ srcO m t c)) := rfl

/-- The state the body ends in is every buffer whole and every semaphore at zero. -/
theorem final : (St m c iprop(semVal (barCell c) 0 ∗ argL m c) [] [1, 0] [] [9, 8, 7, 6, 5, 4, 3, 2, 1, 0] [] [] [] recvT.reverse [] [] drainT.reverse drainT.reverse : sProp 𝕄)
    ⊢ iprop(∃ w, owes (c : Thread nD τ) 0 w ∗ semVal (barCell c) 0 ∗ argL m c ∗ resOk m c ∗ scratch c ∗ localSems c ∗ copySems c) := by
  unfold St scratch localSems copySems
  iintro ⟨%K, %w, -, HO, ⟨Hbar, HL⟩, -, Hsl, -, Hmr, -, -, -, Hrd, -, -, Hod, Hsn⟩
  ihave Hod := (Entails.of_eq ((bs_perm (l' := allT) (by decide) (by decide) (odone m c)).trans (outs_eq m c))) $$ Hod
  ihave Hsn := (Entails.of_eq ((bs_perm (l' := allT) (by decide) (by decide) (sdone m c)).trans (sents_eq m c))) $$ Hsn
  ihave Hrd := (bs_order (l' := allT) (by decide) (by decide)) $$ Hrd
  ihave Hsl := (Entails.of_eq ((bs_perm (l := [1, 0]) (l' := [0, 1]) (by decide) (by decide) (slot c)).trans (slots_eq c))) $$ Hsl
  ihave Hmr := (bs_order (l' := [0, 1, 2, 3, 4, 5, 6, 7, 8, 9]) (by decide) (by decide)) $$ Hmr
  ihave ⟨Hls, H4⟩ := (bs_unzip [0, 1] (fun s : Fin 2 => semVal ((c : Thread nD τ), .dma (lS s)) 0) (place c)) $$ Hsl
  ihave H4 := (Entails.of_eq (two_list (place c))) $$ H4
  ihave H4 := (stg_join m c) $$ H4
  ihave ⟨Hos, Hod⟩ := (bs_unzip allT (fun t => semVal ((c : Thread nD τ), .dma (oS t)) 0) (fun t => iprop(owns (c : Thread nD τ) (outM t c) fullShare (oval m t c) ∗ sumO m t c (qo t)))) $$ Hod
  ihave ⟨Hout, Hsum⟩ := (bs_unzip allT (fun t => owns (c : Thread nD τ) (outM t c) fullShare (oval m t c)) (fun t => sumO m t c (qo t))) $$ Hod
  ihave Hout := (Entails.of_eq (bs_all _)) $$ Hout
  ihave Hout := (out_join m c) $$ Hout
  ihave ⟨Hss, Hsn⟩ := (bs_unzip allT (fun t => semVal (sndCell t c) 0) (fun t => srcO m t c)) $$ Hsn
  ihave ⟨Hown, Hsn⟩ := (own_late (fun t => srcO m t c)) $$ Hsn
  ihave Hown := (bs_zip [0, 1, 2, 3, 4, 5, 6, 7, 8, 9] (fun t => srcO m t c) (mineR m c)) $$ [Hown Hmr]; · iclose
  ihave Hown := (Entails.of_eq (mine_list _)) $$ Hown
  have ho : (bigSep (fam .mine) fun t => iprop(srcO m t c ∗ mineR m c t)) ⊢ (bigSep (fam .mine) (own c) : sProp 𝕄) :=
    sep_each fun t ht => back_own m c t (Finset.mem_filter.mp ht).2
  ihave H0 := ho $$ Hown
  ihave H0 := (mine_join c (m ((c : Thread nD τ).loc cc0_scratch0))) $$ H0
  ihave H0 := (Entails.of_eq (mine_eq c)) $$ H0
  ihave Hl := (lands_back m c) $$ [Hsn Hsum]; · iclose
  ihave Hl := (Entails.of_eq (bs_all (land c))) $$ Hl
  ihave ⟨H1, H2, H3⟩ := (Entails.of_eq (sep_axes (land c))) $$ Hl
  ihave H1 := (buf_join (b := .rx) (by decide) c (m ((c : Thread nD τ).loc cc0_scratch1))) $$ H1
  ihave H2 := (buf_join (b := .ry) (by decide) c (m ((c : Thread nD τ).loc cc0_scratch2))) $$ H2
  ihave H3 := (buf_join (b := .rz) (by decide) c (m ((c : Thread nD τ).loc cc0_scratch3))) $$ H3
  ihave H1 := (Entails.of_eq (rx_eq c)) $$ H1
  ihave H2 := (Entails.of_eq (ry_eq c)) $$ H2
  ihave H3 := (Entails.of_eq (rz_eq c)) $$ H3
  unfold resOk
  iexists w
  isplitl [HO]; · iexact HO
  isplitl [Hbar]; · iexact Hbar
  isplitl [HL]; · iexact HL
  isplitl [Hout]; · iexact Hout
  isplitl [H0 H1 H2 H3 H4]; · iclose
  isplitl [Hos Hls]; · iclose
  isplitl [Hss]; · iexact Hss
  iexact Hrd

end Cert.KernelIdeal.Run

end
-- ==== Proof.Ideal.Deal.lean ====
/-
# What the launch deals

The launch's element funds every cell of every device; one step over all devices at once records the cells' invariants, and passes each token to the
device that pays its unit. The launch's credit gives each device the credits of its own cells.
-/
module

public import proofs.«01_k».proof.Proof.Ideal.Exit
public import Idealize.ShloMosaic.Lib.Pipeline.CollectiveSegs
public import Idealize.ShloMosaic.Lib.Pipeline.BigSepL

@[expose] public section

set_option maxRecDepth 100000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

theorem kcell_injective : Function.Injective (kcell : Dev nD × Cix → GSem nD τ sig) := fun ⟨c, k⟩ ⟨c', k'⟩ h => by
  have h1 : c = c' := congrArg (fun g : GSem nD τ sig => g.1.1) h
  have h2 : k = k' := csem_injective (congrArg Prod.snd h)
  subst h1; subst h2; rfl

/-- The cells of all devices, and a token of each of their units. -/
def cellSet : Finset (GSem nD τ sig) := Finset.univ.map ⟨kcell, kcell_injective⟩
abbrev tokOf (x : (Dev nD × Cix) × Ax) : GSem nD τ sig × ℕ × Ax := (kcell x.1, 0, x.2)
theorem tokOf_injective : Function.Injective tokOf := fun ⟨a, d⟩ ⟨b, e⟩ h => by
  have h1 : a = b := kcell_injective (congrArg (fun x : GSem nD τ sig × ℕ × Ax => x.1) h)
  have h2 : d = e := congrArg (fun x : GSem nD τ sig × ℕ × Ax => x.2.2) h
  subst h1; subst h2; rfl
def tokSet : Finset (GSem nD τ sig × ℕ × Ax) := Finset.univ.map ⟨tokOf, tokOf_injective⟩

/-- The launch's element. -/
def u₀ : UU := (initOf (Pipeline.cells cfgs cellOf_inj) (Pipeline.launchToks cfgs cellOf_inj), (initOf cellSet tokSet, 1))

/-! ## A device's cells, listed -/

/-- The cells of a device: the barrier's, the send cells, the receive cells. -/
abbrev cells : List Cix := none :: (allT.map (fun t => some (false, t)) ++ allT.map (fun t => some (true, t)))

theorem cells_split (Φ : Cix → sProp 𝕄) :
    bigSep Finset.univ Φ = iprop(Φ none ∗ bs allT (fun t => Φ (some (false, t))) ∗ bs allT (fun t => Φ (some (true, t)))) := by
  rw [bigSep_univ_eq_bigSepL cells (by decide) (by decide) Φ]
  show bs cells Φ = _
  rw [bs_cons]
  unfold bs
  rw [bigSepL_append, bigSepL_map, bigSepL_map]

theorem axes_split (Φ : Ax → sProp 𝕄) : bigSep Finset.univ Φ = iprop(Φ .x ∗ Φ .y ∗ Φ .z) := by
  rw [bigSep_univ_eq_bigSepL [Ax.x, .y, .z] (by decide) (by decide), bigSepL_cons_cons, bigSepL_cons_cons, bigSepL_singleton]
  rfl

theorem bs_each {I : Type} (l : List I) {Φ Ψ : I → sProp 𝕄} (h : ∀ i, Φ i ⊢ Ψ i) : bs l Φ ⊢ bs l Ψ := by
  induction l with
  | nil => exact Entails.rfl
  | cons a l ih => rw [bs_cons, bs_cons]; exact BIClass.sep_mono (h a) ih

variable (m : (ℓ : Loc nD τ sig) → Buf (Elt F) ℓ)

/-! ## What the element funds -/

/-- The tokens of device `c`'s own cells, as minted, -/
def minted (c : Dev nD) : sProp 𝕄 := bigSep Finset.univ fun k : Cix => bigSep Finset.univ fun d : Ax => dutyTok ER (kcell (c, k)) 0 d
/-- and those that are used. -/
def ownToks (c : Dev nD) : sProp 𝕄 :=
  iprop((dutyTok ER (barCell c) 0 .x ∗ dutyTok ER (barCell c) 0 .y ∗ dutyTok ER (barCell c) 0 .z)
    ∗ bs allT (fun t => dutyTok ER (sndCell t c) 0 .x) ∗ bs allT (fun t => dutyTok ER (rcvCell t c) 0 .x))

theorem minted_own (c : Dev nD) : minted c ⊢ (ownToks c : sProp 𝕄) := by
  unfold minted ownToks
  rw [cells_split]
  exact BIClass.sep_mono (Entails.of_eq (axes_split _))
    (BIClass.sep_mono (bs_each allT fun t => bigSep_elim (Finset.mem_univ Ax.x)) (bs_each allT fun t => bigSep_elim (Finset.mem_univ Ax.x)))

/-- What the launch's element deals a device. -/
def G (c : Dev nD) : sProp 𝕄 :=
  iprop((bigSep Finset.univ fun k : Cix => roundState ER (Rd m) (kcell (c, k)) 0)
    ∗ ((bigSep Finset.univ fun k : Cix => atPos ER (kcell (c, k)) 0 ∅ 0) ∗ (bigSep Finset.univ fun k : Cix => reached ER (kcell (c, k)) 0)) ∗ minted c)

theorem fund_cells : BI.own (ER (initOf cellSet tokSet)) ⊢ (|==> bigSep Finset.univ (G m) : sProp 𝕄) := by
  have hC (Φ : GSem nD τ sig → sProp 𝕄) : bigSep cellSet Φ = bigSep Finset.univ fun c : Dev nD => bigSep Finset.univ fun k : Cix => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => minted c := by
    unfold tokSet minted; rw [bigSep_map, bigSep_univ_prod, bigSep_univ_prod]; rfl
  unfold G
  simp only [bigSep_sep']
  iintro H
  imod (Rounds.fund ER (Rd m) cellSet tokSet) $$ H with ⟨Hs, Hr, Ha, Ht⟩
  imodintro
  ihave Hs := (Entails.of_eq (hC fun g => roundState ER (Rd m) g 0)) $$ Hs
  ihave Ha := (Entails.of_eq (hC fun g => atPos ER g 0 ∅ 0)) $$ Ha
  ihave Hr := (Entails.of_eq (hC fun g => reached ER g 0)) $$ Hr
  ihave Ht := (Entails.of_eq hT) $$ Ht
  isplitl [Hs]; · iexact Hs
  isplitl [Ha Hr]
  · isplitl [Ha]; · iexact Ha
    iexact Hr
  iexact Ht

/-! ## The semaphores -/

/-- The kernel's own semaphores are all the DMA semaphores; -/
abbrev osem : Fin 86 → SemLoc sig := fun i => .dma i
theorem ownSemFacts : Pipeline.OwnSemFacts cfg0.spec osem := by decide +kernel

/-- in the order the groups are held. -/
abbrev semList : List (Fin 86) := (allT.map oS ++ [0, 1].map lS) ++ (allT.map sS ++ allT.map rS)

theorem own_sems (c : Dev nD) : (Pipeline.ownSems0 (Ix := Unit) (Name := ℕ) (U := UU) (Lvl := ℕ) (Val := Elt F) (τ := τ) osem c : sProp 𝕄)
    = iprop(localSems c ∗ copySems c) := by
  rw [Pipeline.ownSems0_eq_of_list c osem semList (by decide +kernel) (by decide +kernel)]
  unfold localSems copySems bs
  rw [bigSepL_append, bigSepL_append, bigSepL_append, bigSepL_map, bigSepL_map, bigSepL_map, bigSepL_map]
  rfl

/-- and the barrier's is the one the launch holds. -/
theorem bar_sem (c : Dev nD) : (unscopedSems0 c : sProp 𝕄) = semVal (barCell c) 0 := by
  unfold unscopedSems0; rw [bigSep_eq_bigSepL_of_eq [SemLoc.reg barS] (by decide +kernel) (by decide)]; rfl

theorem cell_sems (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : Cix => semVal (kcell (c, k)) 0) : sProp 𝕄) := by
  rw [own_sems, bar_sem, cells_split]
  unfold copySems
  iintro ⟨⟨Hl, Hs, Hr⟩, Hb⟩
  isplitl [Hl]; · iexact Hl
  isplitl [Hb]; · iexact Hb
  isplitl [Hs]; · iexact Hs
  iexact Hr

/-! ## The step over all devices -/

/-- A device's share of it before the tokens go round: its cells' invariants, its places, its tokens and its local copies' semaphores. -/
def pre (c : Dev nD) : sProp 𝕄 :=
  iprop((bigSep Finset.univ fun k => iprop(∃ κ : ℕ, cellInv ER (Rd m) κ (kcell (c, k))))
    ∗ ((bigSep Finset.univ fun k : Cix => atPos ER (kcell (c, k)) 0 ∅ 0) ∗ (bigSep Finset.univ fun k : Cix => reached ER (kcell (c, k)) 0)) ∗ minted c ∗ localSems c)

theorem alloc (c : Dev nD) :
    iprop(Pipeline.ownSems0 (Ix := Unit) (Name := ℕ) (U := UU) (Lvl := ℕ) (Val := Elt F) (τ := τ) osem c ∗ unscopedSems0 c ∗ G m c) ⊢ |={Set.univ}=> pre m c := by
  have hi : iprop((bigSep Finset.univ fun k : Cix => semVal (kcell (c, k)) 0) ∗ bigSep Finset.univ fun k : Cix => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G pre
  iintro ⟨Ho, Hu, Hst, Ha, Ht⟩
  ihave ⟨Hl, Hv⟩ := (cell_sems (F := F) c) $$ [Ho Hu]
  · isplitl [Ho]; · iexact Ho
    iexact Hu
  imod hi $$ [Hv Hst] with HI
  · isplitl [Hv]; · iexact Hv
    iexact Hst
  imodintro
  isplitl [HI]; · iexact HI
  isplitl [Ha]; · iexact Ha
  isplitl [Ht]; · iexact Ht
  iexact Hl

/-- Neighbours along an axis, as a bijection. -/
def nbE (d : Ax) : Dev nD ≃ Dev nD := ⟨nb d, nb d, nb_nb d, nb_nb d⟩
/-- Every copy's sender and receiver, as a bijection. -/
def copyE : Dev nD × T ≃ Dev nD × T :=
  ⟨fun p => (nb (ax p.2) p.1, p.2), fun p => (nb (ax p.2) p.1, p.2), fun p => by simp only [nb_nb], fun p => by simp only [nb_nb]⟩

/-- The tokens of all devices' cells are the tokens of the units all devices pay. -/
theorem toks_round : (bigSep Finset.univ fun c : Dev nD => (ownToks c : sProp 𝕄)) ⊢ bigSep Finset.univ fun c : Dev nD => payToks c := by
  have hr : (bigSep Finset.univ fun c : Dev nD => (bs allT (fun t => dutyTok ER (rcvCell t c) 0 .x) : sProp 𝕄))
      = bigSep Finset.univ fun c : Dev nD => bs allT (fun t => dutyTok ER (rcvCell t (nb (ax t) c)) 0 .x) := by
    simp only [bs_all]
    rw [← bigSep_univ_prod (fun p : Dev nD × T => (dutyTok ER (rcvCell p.2 p.1) 0 .x : sProp 𝕄)),
      ← bigSep_univ_prod (fun p : Dev nD × T => (dutyTok ER (rcvCell p.2 (nb (ax p.2) p.1)) 0 .x : sProp 𝕄))]
    exact bigSep_univ_equiv copyE _
  have hb (d : Ax) : (bigSep Finset.univ fun c : Dev nD => (dutyTok ER (barCell c) 0 d : sProp 𝕄)) = bigSep Finset.univ fun c : Dev nD => dutyTok ER (barCell (nb d c)) 0 d :=
    bigSep_univ_equiv (nbE d) _
  unfold ownToks payToks
  simp only [bigSep_sep']
  rw [hr, hb .x, hb .y, hb .z]
  exact Entails.rfl

/-- The records every device keeps a copy of. -/
def recs0 (K : Dev nD × Cix → ℕ) : sProp 𝕄 :=
  iprop((bigSep Finset.univ fun ck : Dev nD × Cix => cellInv ER (Rd m) (K ck) (kcell ck)) ∗ bigSep Finset.univ fun ck : Dev nD × Cix => reached ER (kcell ck) 0)
instance recs0_persistent (K : Dev nD × Cix → ℕ) : BI.Persistent (recs0 m K) := by unfold recs0; infer_instance

/-- What is a device's alone. -/
def alone (c : Dev nD) : sProp 𝕄 := iprop(payToks c ∗ places c ∗ localSems c)
/-- What the step makes of it. -/
def G' (c : Dev nD) : sProp 𝕄 := iprop(∃ K, recs0 m K ∗ alone c)

/-- A persistent fact goes to every conjunct. -/
theorem to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono (BI.bigSep_of_persistent S R) Entails.rfl).trans (by rw [← bigSep_sep']; exact bigSep_mono h)

theorem regroup : (bigSep Finset.univ (pre m) : sProp 𝕄) ⊢ bigSep Finset.univ (G' m) := by
  have ht : (bigSep Finset.univ fun c : Dev nD => (minted c : sProp 𝕄)) ⊢ bigSep Finset.univ fun c : Dev nD => payToks c :=
    (sep_each fun c _ => minted_own c).trans toks_round
  have hp (c : Dev nD) : (bigSep Finset.univ fun k : Cix => (atPos ER (kcell (c, k)) 0 ∅ 0 : sProp 𝕄)) = places c := cells_split _
  unfold pre
  simp only [bigSep_sep']
  rw [← bigSep_univ_prod (fun ck : Dev nD × Cix => iprop(∃ κ : ℕ, cellInv ER (Rd m) κ (kcell ck))), ← bigSep_univ_prod (fun ck : Dev nD × Cix => (reached ER (kcell ck) 0 : sProp 𝕄))]
  simp only [hp]
  iintro ⟨HI, ⟨Ha, #HR⟩, Ht, Hl⟩
  ihave ⟨%K, #HI⟩ := (BI.bigSep_exists_pi Finset.univ (fun (ck : Dev nD × Cix) (κ : ℕ) => (cellInv ER (Rd m) κ (kcell ck) : sProp 𝕄))) $$ HI
  ihave Ht := ht $$ Ht
  have hg : ∀ c ∈ (Finset.univ : Finset (Dev nD)), iprop(recs0 m K ∗ alone c) ⊢ (G' m c : sProp 𝕄) := fun c _ => by
    unfold G'
    iintro H
    iexists K
    iexact H
  iapply (to_all (R := recs0 m K) hg)
  isplitr
  · unfold recs0
    isplitl; · iexact HI
    iexact HR
  · unfold alone
    simp only [bigSep_sep']
    isplitl [Ht]; · iexact Ht
    isplitl [Ha]; · iexact Ha
    iexact Hl

/-- The step: the semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The launch's credit -/

theorem cell_dev {a b : Dev nD} {k k' : Cix} (h : kcell (a, k) = kcell (b, k')) : a = b := congrArg (fun g : GSem nD τ sig => g.1.1) h
theorem cell_ix {a b : Dev nD} {k k' : Cix} (h : kcell (a, k) = kcell (b, k')) : k = k' := csem_injective (congrArg Prod.snd h)

theorem owed_at (d c : Dev nD) (k k' : Cix) (n : ℕ) : (tallyAt (kcell (d, k)) () n : CellTallies nD τ sig Unit) (kcell (c, k')) () = if d = c ∧ k = k' then n else 0 := by
  rw [tallyAt_apply]
  by_cases h : d = c ∧ k = k'
  · obtain ⟨rfl, rfl⟩ := h
    rw [if_pos ⟨rfl, rfl⟩, if_pos ⟨rfl, rfl⟩]
  · rw [if_neg h, if_neg fun h' => h ⟨(cell_dev h'.1).symm, (cell_ix h'.1).symm⟩]

/-- What device `d` owes a receive cell of device `c` by the copies of a list: that copy's credit, if `c` is its neighbour. -/
theorem owed_list (d c : Dev nD) (t : T) (l : List T) (hn : l.Nodup) : Ol d l (rcvCell t c) () = if nb (ax t) d = c ∧ t ∈ l then N t else 0 := by
  induction l with
  | nil => rw [if_neg fun h => (List.not_mem_nil h.2)]; rfl
  | cons s l ih =>
    have hs := List.nodup_cons.mp hn
    rw [Ol_cons, Pi.add_apply, Finsupp.add_apply, ih hs.2, owed_at]
    by_cases e : s = t
    · subst e
      rw [if_neg fun h => hs.1 h.2, Nat.zero_add]
      by_cases hc : nb (ax s) d = c
      · rw [if_pos ⟨hc, rfl⟩, if_pos ⟨hc, List.mem_cons_self⟩]
      · rw [if_neg fun h => hc h.1, if_neg fun h => hc h.1]
    · rw [if_neg (c := nb (ax s) d = c ∧ some (true, s) = some (true, t)) fun h => e (congrArg Prod.snd (Option.some.inj h.2)), Nat.add_zero]
      by_cases ht : nb (ax t) d = c ∧ t ∈ l
      · rw [if_pos ht, if_pos ⟨ht.1, List.mem_cons_of_mem _ ht.2⟩]
      · rw [if_neg ht, if_neg fun h => ht ⟨h.1, (List.mem_cons.mp h.2).resolve_left fun h' => e h'.symm⟩]
theorem owed_list_bar (d c : Dev nD) (l : List T) : Ol d l (barCell c) () = 0 := by
  by_contra h
  obtain ⟨t, -, ht⟩ := Ol_pos (Nat.pos_of_ne_zero h)
  exact absurd (cell_ix ht) (by intro h; cases h)

theorem nb_iff (a : Ax) (d c : Dev nD) : nb a d = c ↔ d = nb a c := ⟨fun h => by rw [← h, nb_nb], fun h => by rw [h, nb_nb]⟩

theorem owed_bar (d c : Dev nD) : O₀ d (barCell c) () = (if d = nb .z c then 1 else 0) + (if d = nb .y c then 1 else 0) + (if d = nb .x c then 1 else 0) := by
  have h (a : Ax) : (tallyAt (barCell (nb a d)) () 1 : CellTallies nD τ sig Unit) (barCell c) () = if d = nb a c then 1 else 0 := by
    rw [owed_at]; simp only [nb_iff, and_true]
  unfold O₀
  rw [Pi.add_apply, Finsupp.add_apply, Pi.add_apply, Finsupp.add_apply, Pi.add_apply, Finsupp.add_apply, owed_list_bar, Nat.zero_add]
  exact congrArg₂ (· + ·) (congrArg₂ (· + ·) (h .z) (h .y)) (h .x)

theorem owed_rcv (d c : Dev nD) (t : T) : O₀ d (rcvCell t c) () = if d = nb (ax t) c then N t else 0 := by
  have h (e : Dev nD) : (tallyAt (barCell e) () 1 : CellTallies nD τ sig Unit) (rcvCell t c) () = 0 := by
    rw [owed_at, if_neg fun h => absurd h.2 (by intro h; cases h)]
  unfold O₀
  rw [Pi.add_apply, Finsupp.add_apply, Pi.add_apply, Finsupp.add_apply, Pi.add_apply, Finsupp.add_apply, h, h, h, owed_list d c t _ (List.nodup_finRange 28)]
  simp only [nb_iff, List.mem_finRange, and_true, Nat.add_zero]

theorem credit_bar (c : Dev nD) : tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]
theorem credit_rcv (t : T) (c : Dev nD) : tallyOn (rcvCell t c) (launchCredit (Pipeline.owing O₀) 0 (rcvCell t c)) = (tallyAt (rcvCell t c) () (N t) : CellTallies nD τ sig Unit) := by
  unfold tallyAt
  refine congrArg _ (Finsupp.ext fun u => ?_)
  cases u
  rw [Pipeline.launchCredit_owing, Finsupp.single_eq_same, Finset.sum_congr rfl fun d _ => owed_rcv d c t, Finset.sum_ite_eq' Finset.univ _ fun _ => N t, if_pos (Finset.mem_univ _)]

/-- The launch's credit of a device holds the credits of its own cells. -/
theorem credits (c : Dev nD) : (Pipeline.launchCred O₀ c : sProp 𝕄) ⊢ creds c := by
  have hc : (bigSep ((Finset.univ : Finset Cix).map ⟨csem, csem_injective⟩) fun sm => (cred (tallyOn ((c : Thread nD τ), sm) (launchCredit (Pipeline.owing O₀) 0 ((c : Thread nD τ), sm))) : sProp 𝕄))
      ⊢ creds c := by
    rw [bigSep_map, cells_split]
    unfold creds
    exact BIClass.sep_mono (Entails.of_eq (congrArg cred (credit_bar c)))
      ((BIClass.sep_mono Entails.rfl (bs_each allT fun t => Entails.of_eq (congrArg cred (credit_rcv t c)))).trans (by iintro ⟨-, H⟩; iexact H))
  unfold Pipeline.launchCred
  exact (bigSep_subset (Finset.subset_univ _)).trans hc

end Cert.KernelIdeal.Run

end
-- ==== Proof.Ideal.Run.lean ====
/-
# The run

From any memory with every semaphore at zero, every fair execution of the devices ends; at the end the operand is unchanged, every window of the
result array holds its sum, and every semaphore is at zero.
-/
module

public import proofs.«01_k».proof.Proof.Ideal.Deal

@[expose] public section

set_option maxRecDepth 100000

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- What a device holds when its kernel is called, the scratch buffers apart. -/
def atCall (c : Dev nD) : sProp 𝕄 :=
  iprop((∃ K, recs m K ∗ alone c) ∗ creds c ∗ ((c : Thread nD τ).loc main_arg0 ↦{fullShare} (m ((c : Thread nD τ).loc main_arg0)))
    ∗ ((c : Thread nD τ).loc main_v1 ↦{fullShare} (m ((c : Thread nD τ).loc main_v1))))
def Φ₀ (c : Dev nD) : sProp 𝕄 := iprop(atCall m c ∗ scratch c)
/-- What it holds when the kernel has ended. -/
def Φ₁ (c : Dev nD) : sProp 𝕄 := iprop(semVal (barCell c) 0 ∗ argL m c ∗ resOk m c ∗ scratch c ∗ localSems c ∗ copySems c)

def dats (_ : Fin 1) (c : Dev nD) : Pipeline.Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem run_body (c : Dev nD) (w : Waits sig Unit) :
    iprop(Φ₀ m c ∗ owes (c : Thread nD τ) (O₀ c) w) ⊢ WP c (bodyAt0 t0_0) fun _ => iprop(∃ w', owes (c : Thread nD τ) 0 w' ∗ Φ₁ m c) := by
  have hb : Pre m c (argL m c) [0, 1, 2, 3, 4, 5, 6, 7, 8, 9] [0, 1] [] ⊢ WP c (bodyAt0 t0_0) fun _ => iprop(∃ w', owes (c : Thread nD τ) 0 w' ∗ Φ₁ m c) :=
    body (final m c)
  unfold Φ₀ atCall alone
  iintro ⟨⟨⟨⟨%K, HK, Ht, Hp, Hl⟩, Hc, Hi, Ho⟩, Hs⟩, HO⟩
  iapply hb
  iapply (first m c w (K := K))
  isplitl [HK]; · iexact HK
  isplitl [HO]; · iexact HO
  isplitl [Ht]; · iexact Ht
  isplitl [Hp]; · iexact Hp
  isplitl [Hc]; · iexact Hc
  isplitl [Hl]; · iexact Hl
  isplitl [Hi]; · iexact Hi
  isplitl [Ho]
  · unfold whole
    iexists (m ((c : Thread nD τ).loc main_v1))
    iexact Ho
  iexact Hs

theorem body_obligation (c : Dev nD) : Pipeline.BodyObligation (dats (F := F) m 0 c) (defs₀ (F := F)) 𝒱₀ () Set.univ := fun t => by
  rw [fin_N0 t]
  show iprop(Φ₀ m c ∗ (dats (F := F) m 0 c).owesAt () (t0_0 : Fin cfg0.N).castSucc ∗ _)
    ⊢ WP c (bodyAt0 t0_0) fun _ => iprop(Φ₁ m c ∗ (dats (F := F) m 0 c).owesAt () (t0_0 : Fin cfg0.N).succ ∗ _)
  have hs : iprop(∃ w', owes (c : Thread nD τ) 0 w' ∗ Φ₁ m c) ⊢ (iprop(Φ₁ m c ∗ (dats (F := F) m 0 c).owesAt () (t0_0 : Fin cfg0.N).succ ∗ emp) : sProp 𝕄) := by
    unfold Pipeline.Dat.owesAt Pipeline.owesWithin
    iintro ⟨%w, HO, H⟩
    isplitl [H]; · iexact H
    isplitl [HO]
    · iexists w
      isplitr
      · ipureintro
        exact fun _ _ => Or.inl trivial
      · iexact HO
    iempintro
  refine BIBase.Entails.trans ?_ (wp_mono _ _ _ fun _ => hs)
  iintro ⟨H, HO, -⟩
  unfold Pipeline.Dat.owesAt Pipeline.owesWithin
  icases HO with ⟨%w, -, HO⟩
  iapply (run_body m c w)
  isplitl [H]; · iexact H
  iexact HO

theorem phi_start (c : Dev nD) :
    iprop(atCall m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch whole
  iintro ⟨Hs, -, Hr⟩
  isplitl [Hs]; · iexact Hs
  iexact Hr

theorem phi_end (c : Dev nD) :
    (dats m 0 c).Φ (Fin.last cfg0.N) ⊢ iprop((semVal (barCell c) 0 ∗ argL m c ∗ resOk m c) ∗ Pipeline.ownSems0 osem c ∗ Pipeline.scopedRest cfg0.spec c) := by
  rw [show (dats m 0 c).Φ (Fin.last cfg0.N) = Φ₁ m c from rfl, scopedRest0_eq, own_sems]
  unfold Φ₁ scratch whole
  iintro ⟨Hb, Ha, Hr, Hs, Hl, Hc⟩
  isplitl [Hb Ha Hr]
  · isplitl [Hb]; · iexact Hb
    isplitl [Ha]; · iexact Ha
    iexact Hr
  isplitl [Hl Hc]
  · isplitl [Hl]; · iexact Hl
    iexact Hc
  iexact Hs

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(atCall m c ∗ emp) := by
  rw [Pipeline.unscopedRestP_none, unscopedRest0_eq]
  unfold G' recs0 atCall recs
  iintro ⟨⟨Hi, Ho⟩, Hlev, Hcr, -, %K, ⟨HI, HR⟩, Ha⟩
  ihave Hcr := (credits c) $$ Hcr
  imodintro
  isplitl
  · isplitl [HI HR Hlev Ha]
    · iexists K
      isplitl [HI HR Hlev]
      · isplitl [HI]; · iexact HI
        isplitl [HR]; · iexact HR
        iexact Hlev
      iexact Ha
    isplitl [Hcr]; · iexact Hcr
    isplitl [Hi]; · iexact Hi
    iexact Ho
  · iempintro

theorem waits (c : Dev nD) : (levAts L lv : sProp 𝕄) ⊢ Pipeline.cellsWaits cfgs (dats m) () 0 c :=
  Pipeline.cellsWaits_intro cfgs (dats m) () 0 c fun w s t => w.elim0

/-- What is read of a device at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ outOk m c (s.mem ((c : Thread nD τ).loc main_v1))

theorem read_end (c : Dev nD) (s' : Phys nD τ sig (Elt F)) :
    iprop((semVal (barCell c) 0 ∗ argL m c ∗ resOk m c) ∗ emp ∗ SI s') ⊢ |={Set.univ}=> (iprop(⌜QY m c s'.mem⌝ ∗ SI s') : sProp 𝕄) := by
  unfold argL resOk
  iintro ⟨⟨Hb, Ha, ⟨%f, %hf, Hr⟩⟩, -, HSI⟩
  icombine HSI Ha gives %ha
  icombine HSI Hr gives %hr
  have hb : (semVal (barCell c) 0 : sProp 𝕄) ⊢ |={Set.univ}=> (unscopedSems0 c : sProp 𝕄) := by rw [bar_sem]; exact fupd_intro
  imod (Pipeline.unscopedSems0_read (X := semVal (barCell c) 0) (c := c) hb s') $$ [Hb HSI] with ⟨%hz, HSI⟩
  · isplitl [Hb]; · iexact Hb
    iexact HSI
  imodintro
  isplitr
  · ipureintro
    exact ⟨hz, Buf.eq_of_forall_mem_univ ha, by rw [Buf.eq_of_forall_mem_univ hr]; exact hf⟩
  · iexact HSI

/-- What the run leaves: on every device the operand as it was, and each window of the result array at its sum. -/
def QC (s : MemSt nD τ sig (Elt F)) : Prop :=
  ∀ c : Dev nD, s.mem ((c : Thread nD τ).loc main_arg0) = m ((c : Thread nD τ).loc main_arg0) ∧ outOk m c (s.mem ((c : Thread nD τ).loc main_v1))

theorem run_main : θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave ⟨HP, HX⟩ := (ownU_pair _ _) $$ Hu
      ihave ⟨HX, -⟩ := (own_pair_emb embR _ _) $$ HX
      imod (fund_cells m) $$ HX with HG
      imodintro
      isplitl [HP] <;> iassumption)
    (hglob := glob m)
    (hA := fun _ _ => rfl) (hpf := fun _ k => k.elim0)
    (X := atCall m) (Y := fun c => iprop(semVal (barCell c) 0 ∗ argL m c ∗ resOk m c)) (Z := fun _ => iprop(emp))
    (hX := start_intro m ρ) (hin := phi_start m) (hout := phi_end m)
    (QY := QY m) (hY := read_end m)
    (hQ := fun _ h hs => ⟨fun c => (h c).2.2.2, sem_eq_zero hs fun c => (h c).2.2.1⟩)

end Cert.KernelIdeal.Run

end
-- ==== Proof.Value.lean ====
/-
# The value

Over the reals each device's sum is the sum of the two halves of the operand, whichever half the device holds: its x neighbour holds the other.
Every window of the result holds rows of such a sum, and the windows cover the result. The reference sums the same two halves.
-/
module

public import proofs.«01_k».proof.Defs
public import proofs.«01_k».proof.Proof.Ideal.Run
public import proofs.«01_k».proof.Proof.Gen.ReferenceIdeal
public import proofs.«01_k».proof.Proof.Gen.ReferenceIdeal.Run
public import Idealize.ShloMosaic.Lib.Layout
public import Idealize.ShloMosaic.Lib.Pointwise.Reduce
public import Idealize.ShloMosaic.Lib.Pointwise.Reshape

@[expose] public section

set_option maxRecDepth 100000

noncomputable section

namespace Cert.Value

open Idealize.ShloMosaic Idealize.SL.Sem
open Idealize.ShloMosaic.TcCoe
open Cert.KernelIdeal Cert.KernelIdeal.Run

/-- The sum of the two halves of an array of 32768 rows. -/
def halves (X : (⟨2, ![32768, 1024]⟩ : Shape).Idx → EReal) : (⟨2, ![16384, 1024]⟩ : Shape).Idx → EReal :=
  fun i => X (ValueIdx.ix2 ⟨(i 0).val, Nat.lt_trans (i 0).isLt (by decide)⟩ (i 1)) + X (ValueIdx.ix2 ⟨16384 + (i 0).val, Nat.add_lt_add_left (i 0).isLt 16384⟩ (i 1))

/-- A result array is known from its windows: if device `c`'s windows all hold rows of `g`, the array is `g`. -/
theorem out_eq (c : Dev nD) (f g : S16384x1024.Idx → Elt Ideal .bf16)
    (h : ∀ t : T, (outM t c).view.read (Elt Ideal) (show Buf (Elt Ideal) ((c : Thread nD τ).loc main_v1) from f) = rowsOf g (og t c) (rows t) (og_le t c)) : f = g := by
  funext i
  obtain ⟨t, -, h1, h2⟩ := og_cover c (i 0).val (i 0).isLt
  have hi := congrFun (h t) (ValueIdx.ix2 ⟨(i 0).val - og t c, by omega⟩ (i 1))
  have e : ∀ (w : S16384x1024.Idx), (w 0).val = og t c + ((i 0).val - og t c) → (w 1).val = (i 1).val → w = i := by
    intro w h0 h1'
    funext a
    apply Fin.ext
    revert a
    exact Fin.forall_fin_two.mpr ⟨by omega, h1'⟩
  have e1 : (outM t c).view.read (Elt Ideal) (show Buf (Elt Ideal) ((c : Thread nD τ).loc main_v1) from f) (ValueIdx.ix2 ⟨(i 0).val - og t c, by omega⟩ (i 1)) = f i := by
    show f _ = f i
    refine congrArg f (e _ ?_ ?_)
    · show og t c + 1 * ((i 0).val - og t c) = _; omega
    · show 0 + 1 * (i 1).val = _; omega
  have e2 : rowsOf g (og t c) (rows t) (og_le t c) (ValueIdx.ix2 ⟨(i 0).val - og t c, by omega⟩ (i 1)) = g i := by
    show g _ = g i
    exact congrArg g (e _ rfl rfl)
  rw [e1, e2] at hi
  exact hi

/-- Which half of the operand a device holds: that of its x coordinate. -/
theorem mesh_row (c : Dev nD) : Layout.meshLin [2, 4, 4] c.val [0] = c.val / 16 := by revert c; decide +kernel

/-- A device's block of the operand at an index. -/
theorem xin_at (m : (ℓ : Loc nD τ sig) → Buf (Elt Ideal) ℓ) (X : (⟨2, ![32768, 1024]⟩ : Shape).Idx → EReal)
    (hX : ∀ c : Dev nD, m ((c : Thread nD τ).loc main_arg0) = Layout.blockN ⟨2, ![16384, 1024]⟩ ⟨2, ![32768, 1024]⟩ (Layout.meshBlock [2, 4, 4] ![[0], []] c) X)
    (c : Dev nD) (i : S16384x1024.Idx) (w : (⟨2, ![32768, 1024]⟩ : Shape).Idx) (h0 : (w 0).val = c.val / 16 * 16384 + (i 0).val) (h1 : (w 1).val = (i 1).val) :
    xin m c i = X w := by
  unfold xin
  rw [hX c, Layout.blockN_apply]
  refine congrArg X ?_
  funext a
  apply Fin.ext
  revert a
  refine Fin.forall_fin_two.mpr ⟨?_, ?_⟩
  · show Layout.meshLin [2, 4, 4] c.val [0] * 16384 + (i 0).val = _
    rw [mesh_row, h0]
  · show Layout.meshLin [2, 4, 4] c.val [] * 1024 + (i 1).val = _
    rw [h1, show Layout.meshLin [2, 4, 4] c.val [] = 0 from rfl]; omega

/-- Every device's sum is the sum of the two halves. -/
theorem gsum_eq (m : (ℓ : Loc nD τ sig) → Buf (Elt Ideal) ℓ) (X : (⟨2, ![32768, 1024]⟩ : Shape).Idx → EReal)
    (hX : ∀ c : Dev nD, m ((c : Thread nD τ).loc main_arg0) = Layout.blockN ⟨2, ![16384, 1024]⟩ ⟨2, ![32768, 1024]⟩ (Layout.meshBlock [2, 4, 4] ![[0], []] c) X)
    (c : Dev nD) : gsum m c = halves X := by
  funext i
  have hp : (px c).val = (c.val + 16) % 32 := rfl
  have hc : c.val < 32 := c.isLt
  show (xin m (px c) i : EReal) + xin m c i = _
  unfold halves
  by_cases h : c.val < 16
  · rw [add_comm]
    refine congrArg₂ (· + ·) (xin_at m X hX c i _ ?_ rfl) (xin_at m X hX (px c) i _ ?_ rfl)
    · show (i 0).val = _; omega
    · show 16384 + (i 0).val = _; rw [hp]; omega
  · refine congrArg₂ (· + ·) (xin_at m X hX (px c) i _ ?_ rfl) (xin_at m X hX c i _ ?_ rfl)
    · show (i 0).val = _; rw [hp]; omega
    · show 16384 + (i 0).val = _; omega

/-- Every device ends with the sum of the two halves. -/
theorem result_eq (m : (ℓ : Loc nD τ sig) → Buf (Elt Ideal) ℓ) (X : (⟨2, ![32768, 1024]⟩ : Shape).Idx → EReal)
    (hX : ∀ c : Dev nD, m ((c : Thread nD τ).loc main_arg0) = Layout.blockN ⟨2, ![16384, 1024]⟩ ⟨2, ![32768, 1024]⟩ (Layout.meshBlock [2, 4, 4] ![[0], []] c) X)
    (c : Dev nD) (f : Buf (Elt Ideal) ((c : Thread nD τ).loc main_v1)) (h : outOk m c f) : f = halves X := by
  refine out_eq c f (halves X) fun t => (h t).trans ?_
  unfold oval
  rw [gsum_eq m X hX]

/-- The reference's term is the sum of the two halves. -/
theorem reference_eq (X : (⟨2, ![32768, 1024]⟩ : Shape).Idx → EReal) :
    truncf (F := Ideal) (s := Cert.ReferenceIdeal.S16384x1024) (φ := .f32) .bf16
      (Host.reduceAdd (F := Ideal) (φ := .f32) (shapeCast Cert.ReferenceIdeal.S2x16384x1024 X Cert.ReferenceIdeal.Gen.shapeCasts_S32768x1024_S2x16384x1024)
        (constant Cert.ReferenceIdeal.S_ .f32 0x00000000#32) Cert.ReferenceIdeal.Gen.reducesTo_S2x16384x1024_S16384x1024_d0 Cert.ReferenceIdeal.Gen.h_S_)
      Cert.ReferenceIdeal.Gen.bitsLt_bf16_f32 = halves X := by
  funext i
  show Host.reduceAdd (F := Ideal) (φ := .f32) _ _ _ _ i = _
  rw [Host.reduceAdd_apply]
  show Ideal.hostReduceAdd _ _ _ i = _
  rw [Ideal.hostReduceAdd_r3_a0, Fin.sum_univ_two]
  show Ideal.ofBits .f32 0x00000000#32 + _ = _
  rw [Ideal.ofBits_zero_f32, zero_add]
  refine congrArg₂ (· + ·) (congrArg X ?_) (congrArg X ?_)
  · refine Shape.reshapeEquiv_eq_of_rowMajor _ ?_
    rw [Shape.rowMajor_val_two, Shape.rowMajor_val_three]
    show (i 0).val * 1024 + (i 1).val = (0 * 16384 + (i 0).val) * 1024 + (i 1).val
    omega
  · refine Shape.reshapeEquiv_eq_of_rowMajor _ ?_
    rw [Shape.rowMajor_val_two, Shape.rowMajor_val_three]
    show (16384 + (i 0).val) * 1024 + (i 1).val = (1 * 16384 + (i 0).val) * 1024 + (i 1).val
    omega

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Hw.Run
public import proofs.«01_k».proof.Proof.Ideal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed runs, leaves its operand and ends with every semaphore at zero. -/
theorem frame_kernel : Cert.quiescent_Kernel := fun m g _ =>
  (θ_run Cert.Kernel.defs _ _).mono (fun _ h => ⟨fun c => (h.1 c).1, h.2⟩) (Cert.Kernel.Run.run_main (F := Bits) m g)

/-- So does the kernel over the reals, -/
theorem frame_ideal : Cert.quiescent_KernelIdeal := fun m g _ =>
  (θ_run Cert.KernelIdeal.defs _ _).mono (fun _ h => ⟨fun c => (h.1 c).1, h.2⟩) (Cert.KernelIdeal.Run.run_main (F := Ideal) m g)

/-- and the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device of the kernel ends with the reference's result, the sum of the two halves of the operand. -/
theorem value : Cert.algebraic_KernelIdeal_ReferenceIdeal := by
  intro m g m' g' _ hX
  refine ⟨Cert.Value.halves (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨Cert.Value.result_eq m _ hX c _ (h.1 c).2, (h.1 c).1⟩)
      (Cert.KernelIdeal.Run.run_main (F := Ideal) m g)
  · exact (θ_run Cert.ReferenceIdeal.defs _ _).mono (fun _ h => ⟨(h 0).1.trans (Cert.Value.reference_eq _), (h 0).2⟩)
      (Cert.ReferenceIdeal.Value.run (F := Ideal) m' g')

/-- All five claims. -/
theorem claim : Cert.Claim :=
  ⟨Cert.Kernel.Gen.facts, Cert.KernelIdeal.Gen.facts, Cert.ReferenceIdeal.Gen.facts, frame_kernel, frame_ideal, frame_reference, trivial, value⟩

end Cert.Proof

end
